-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "beta" .f32 0x3E4CCCCD#32 ((1 / 5 : ℝ) : EReal)
  ∧ IdealRules.named_const.Statement Cert.KernelIdeal.κ "half_beta" .f32 0x3DCCCCCD#32 ((1 / 10 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x3x512x512 : Shape := ⟨4, ![16, 3, 512, 512]⟩
abbrev S256 : Shape := ⟨1, ![256]⟩
abbrev S12582912 : Shape := ⟨1, ![12582912]⟩
abbrev S512 : Shape := ⟨1, ![512]⟩
abbrev S49152 : Shape := ⟨1, ![49152]⟩
abbrev S16 : Shape := ⟨1, ![16]⟩
abbrev S_ : Shape := ⟨0, ![]⟩

abbrev nBuf : Table → Nat
  | .hbm => 9
  | .local .scVector .vmem => 4
  | _ => 0

abbrev bufTy : (tb : Table) → Fin (nBuf tb) → BufTy
  | .hbm, ⟨0, _⟩ => ⟨S16x3x512x512, .f32⟩
  | .hbm, ⟨1, _⟩ => ⟨S16x3x512x512, .f32⟩
  | .hbm, ⟨2, _⟩ => ⟨S256, .f32⟩
  | .hbm, ⟨3, _⟩ => ⟨S12582912, .f32⟩
  | .hbm, ⟨4, _⟩ => ⟨S512, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local .scVector .vmem, ⟨0, _⟩ => ⟨S256, .f32⟩
  | .local .scVector .vmem, ⟨1, _⟩ => ⟨S49152, .f32⟩
  | .local .scVector .vmem, ⟨2, _⟩ => ⟨S49152, .f32⟩
  | .local .scVector .vmem, ⟨3, _⟩ => ⟨S16, .f32⟩
  | _, _ => ⟨S16x3x512x512, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v0_scv : Ref sig .scVector := ⟨.hbm, 3, rfl⟩
abbrev main_arg2_scv : Ref sig .scVector := ⟨.hbm, 2, rfl⟩
abbrev main_v1_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c393216_i32 : BitVec 32 := 393216#32
  let v2 : BitVec 32 := Scalar.muli v1 c393216_i32
  let v3 : BitVec 32 := Scalar.addi v2 c0_i32
  ![v3.toNat]
@[reducible] def k0_t1_loop : Scf.Loop 32 :=
  let c0_i32_0 : BitVec 32 := 0#32
  let c3072_i32 : BitVec 32 := 3072#32
  let v12 : BitVec 32 := Scalar.addi c0_i32_0 c3072_i32
  let c1_i32 : BitVec 32 := 1#32
  ⟨c0_i32_0, v12, c1_i32⟩
def k0_off2 (k0_t1 : Fin k0_t1_loop.trips) : Fin 1 → Nat :=
  let c0_i32_0 : BitVec 32 := 0#32
  let c1_i32 : BitVec 32 := 1#32
  let arg11 : BitVec 32 := Scf.iv c0_i32_0 c1_i32 k0_t1
  let c16_i32_30 : BitVec 32 := 16#32
  let v62 : BitVec 32 := Scalar.muli arg11 c16_i32_30
  let v63 : Index := Scalar.indexCast v62
  ![v63.toNat]

def k0_chk1 (v71 : IVec S16 32) : Prop :=
  (∀ a x, ((![v71] : Fin 1 → IVec S16 32) a x).toNat < S256.size a)
theorem k0_idx1_inb : ∀ (v71 : IVec S16 32) (k0_hw1 : k0_chk1 v71), ∀ a x, ((![v71] : Fin 1 → IVec S16 32) a x).toNat < S256.size a := fun v71 k0_hw1 => k0_hw1
@[reducible] def k0_t2_loop : Scf.Loop 32 :=
  let c0_i32_2 : BitVec 32 := 0#32
  let c3072_i32_3 : BitVec 32 := 3072#32
  let v19 : BitVec 32 := Scalar.addi c0_i32_2 c3072_i32_3
  let c1_i32_4 : BitVec 32 := 1#32
  ⟨c0_i32_2, v19, c1_i32_4⟩
def k0_off3 (k0_t2 : Fin k0_t2_loop.trips) : Fin 1 → Nat :=
  let c0_i32_2 : BitVec 32 := 0#32
  let c1_i32_4 : BitVec 32 := 1#32
  let arg11 : BitVec 32 := Scf.iv c0_i32_2 c1_i32_4 k0_t2
  let c16_i32_30 : BitVec 32 := 16#32
  let v62 : BitVec 32 := Scalar.muli arg11 c16_i32_30
  let v63 : Index := Scalar.indexCast v62
  ![v63.toNat]

def k0_chk2 (v71 : IVec S16 32) : Prop :=
  (∀ a x, ((![v71] : Fin 1 → IVec S16 32) a x).toNat < S256.size a)
theorem k0_idx2_inb : ∀ (v71 : IVec S16 32) (k0_hw2 : k0_chk2 v71), ∀ a x, ((![v71] : Fin 1 → IVec S16 32) a x).toNat < S256.size a := fun v71 k0_hw2 => k0_hw2
@[reducible] def k0_t3_loop : Scf.Loop 32 :=
  let c0_i32_6 : BitVec 32 := 0#32
  let c3072_i32_7 : BitVec 32 := 3072#32
  let v26 : BitVec 32 := Scalar.addi c0_i32_6 c3072_i32_7
  let c1_i32_8 : BitVec 32 := 1#32
  ⟨c0_i32_6, v26, c1_i32_8⟩
def k0_off4 (k0_t3 : Fin k0_t3_loop.trips) : Fin 1 → Nat :=
  let c0_i32_6 : BitVec 32 := 0#32
  let c1_i32_8 : BitVec 32 := 1#32
  let arg11 : BitVec 32 := Scf.iv c0_i32_6 c1_i32_8 k0_t3
  let c16_i32_30 : BitVec 32 := 16#32
  let v62 : BitVec 32 := Scalar.muli arg11 c16_i32_30
  let v63 : Index := Scalar.indexCast v62
  ![v63.toNat]

def k0_chk3 (v71 : IVec S16 32) : Prop :=
  (∀ a x, ((![v71] : Fin 1 → IVec S16 32) a x).toNat < S256.size a)
theorem k0_idx3_inb : ∀ (v71 : IVec S16 32) (k0_hw3 : k0_chk3 v71), ∀ a x, ((![v71] : Fin 1 → IVec S16 32) a x).toNat < S256.size a := fun v71 k0_hw3 => k0_hw3
@[reducible] def k0_t4_loop : Scf.Loop 32 :=
  let c0_i32_10 : BitVec 32 := 0#32
  let c3072_i32_11 : BitVec 32 := 3072#32
  let v33 : BitVec 32 := Scalar.addi c0_i32_10 c3072_i32_11
  let c1_i32_12 : BitVec 32 := 1#32
  ⟨c0_i32_10, v33, c1_i32_12⟩
def k0_off5 (k0_t4 : Fin k0_t4_loop.trips) : Fin 1 → Nat :=
  let c0_i32_10 : BitVec 32 := 0#32
  let c1_i32_12 : BitVec 32 := 1#32
  let arg11 : BitVec 32 := Scf.iv c0_i32_10 c1_i32_12 k0_t4
  let c16_i32_30 : BitVec 32 := 16#32
  let v62 : BitVec 32 := Scalar.muli arg11 c16_i32_30
  let v63 : Index := Scalar.indexCast v62
  ![v63.toNat]

def k0_chk4 (v71 : IVec S16 32) : Prop :=
  (∀ a x, ((![v71] : Fin 1 → IVec S16 32) a x).toNat < S256.size a)
theorem k0_idx4_inb : ∀ (v71 : IVec S16 32) (k0_hw4 : k0_chk4 v71), ∀ a x, ((![v71] : Fin 1 → IVec S16 32) a x).toNat < S256.size a := fun v71 k0_hw4 => k0_hw4
@[reducible] def k0_t5_loop : Scf.Loop 32 :=
  let c0_i32_14 : BitVec 32 := 0#32
  let c3072_i32_15 : BitVec 32 := 3072#32
  let v40 : BitVec 32 := Scalar.addi c0_i32_14 c3072_i32_15
  let c1_i32_16 : BitVec 32 := 1#32
  ⟨c0_i32_14, v40, c1_i32_16⟩
def k0_off6 (k0_t5 : Fin k0_t5_loop.trips) : Fin 1 → Nat :=
  let c0_i32_14 : BitVec 32 := 0#32
  let c1_i32_16 : BitVec 32 := 1#32
  let arg11 : BitVec 32 := Scf.iv c0_i32_14 c1_i32_16 k0_t5
  let c16_i32_30 : BitVec 32 := 16#32
  let v62 : BitVec 32 := Scalar.muli arg11 c16_i32_30
  let v63 : Index := Scalar.indexCast v62
  ![v63.toNat]

def k0_chk5 (v71 : IVec S16 32) : Prop :=
  (∀ a x, ((![v71] : Fin 1 → IVec S16 32) a x).toNat < S256.size a)
theorem k0_idx5_inb : ∀ (v71 : IVec S16 32) (k0_hw5 : k0_chk5 v71), ∀ a x, ((![v71] : Fin 1 → IVec S16 32) a x).toNat < S256.size a := fun v71 k0_hw5 => k0_hw5
@[reducible] def k0_t6_loop : Scf.Loop 32 :=
  let c0_i32_18 : BitVec 32 := 0#32
  let c3072_i32_19 : BitVec 32 := 3072#32
  let v47 : BitVec 32 := Scalar.addi c0_i32_18 c3072_i32_19
  let c1_i32_20 : BitVec 32 := 1#32
  ⟨c0_i32_18, v47, c1_i32_20⟩
def k0_off7 (k0_t6 : Fin k0_t6_loop.trips) : Fin 1 → Nat :=
  let c0_i32_18 : BitVec 32 := 0#32
  let c1_i32_20 : BitVec 32 := 1#32
  let arg11 : BitVec 32 := Scf.iv c0_i32_18 c1_i32_20 k0_t6
  let c16_i32_30 : BitVec 32 := 16#32
  let v62 : BitVec 32 := Scalar.muli arg11 c16_i32_30
  let v63 : Index := Scalar.indexCast v62
  ![v63.toNat]

def k0_chk6 (v71 : IVec S16 32) : Prop :=
  (∀ a x, ((![v71] : Fin 1 → IVec S16 32) a x).toNat < S256.size a)
theorem k0_idx6_inb : ∀ (v71 : IVec S16 32) (k0_hw6 : k0_chk6 v71), ∀ a x, ((![v71] : Fin 1 → IVec S16 32) a x).toNat < S256.size a := fun v71 k0_hw6 => k0_hw6
@[reducible] def k0_t7_loop : Scf.Loop 32 :=
  let c0_i32_22 : BitVec 32 := 0#32
  let c3072_i32_23 : BitVec 32 := 3072#32
  let v54 : BitVec 32 := Scalar.addi c0_i32_22 c3072_i32_23
  let c1_i32_24 : BitVec 32 := 1#32
  ⟨c0_i32_22, v54, c1_i32_24⟩
def k0_off8 (k0_t7 : Fin k0_t7_loop.trips) : Fin 1 → Nat :=
  let c0_i32_22 : BitVec 32 := 0#32
  let c1_i32_24 : BitVec 32 := 1#32
  let arg11 : BitVec 32 := Scf.iv c0_i32_22 c1_i32_24 k0_t7
  let c16_i32_30 : BitVec 32 := 16#32
  let v62 : BitVec 32 := Scalar.muli arg11 c16_i32_30
  let v63 : Index := Scalar.indexCast v62
  ![v63.toNat]

def k0_chk7 (v71 : IVec S16 32) : Prop :=
  (∀ a x, ((![v71] : Fin 1 → IVec S16 32) a x).toNat < S256.size a)
theorem k0_idx7_inb : ∀ (v71 : IVec S16 32) (k0_hw7 : k0_chk7 v71), ∀ a x, ((![v71] : Fin 1 → IVec S16 32) a x).toNat < S256.size a := fun v71 k0_hw7 => k0_hw7
@[reducible] def k0_t8_loop : Scf.Loop 32 :=
  let c0_i32_26 : BitVec 32 := 0#32
  let c3072_i32_27 : BitVec 32 := 3072#32
  let v58 : BitVec 32 := Scalar.addi c0_i32_26 c3072_i32_27
  let c1_i32_28 : BitVec 32 := 1#32
  ⟨c0_i32_26, v58, c1_i32_28⟩
def k0_off9 (k0_t8 : Fin k0_t8_loop.trips) : Fin 1 → Nat :=
  let c0_i32_26 : BitVec 32 := 0#32
  let c1_i32_28 : BitVec 32 := 1#32
  let arg11 : BitVec 32 := Scf.iv c0_i32_26 c1_i32_28 k0_t8
  let c16_i32_30 : BitVec 32 := 16#32
  let v62 : BitVec 32 := Scalar.muli arg11 c16_i32_30
  let v63 : Index := Scalar.indexCast v62
  ![v63.toNat]

def k0_chk8 (v71 : IVec S16 32) : Prop :=
  (∀ a x, ((![v71] : Fin 1 → IVec S16 32) a x).toNat < S256.size a)
theorem k0_idx8_inb : ∀ (v71 : IVec S16 32) (k0_hw8 : k0_chk8 v71), ∀ a x, ((![v71] : Fin 1 → IVec S16 32) a x).toNat < S256.size a := fun v71 k0_hw8 => k0_hw8
def k0_off10 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v61 : BitVec 32 := Scalar.muli v1 c16_i32
  ![v61.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "beta" => some ((1 / 5 : ℝ) : EReal)
  | "half_beta" => some ((1 / 10 : ℝ) : EReal)
  | _ => none
-- ==== ReferenceIdeal.lean ====
abbrev S16x3x512x512 : Shape := ⟨4, ![16, 3, 512, 512]⟩
abbrev S256 : Shape := ⟨1, ![256]⟩
abbrev S_ : Shape := ⟨0, ![]⟩
abbrev S16x3x512x512x1 : Shape := ⟨5, ![16, 3, 512, 512, 1]⟩
abbrev S1 : Shape := ⟨1, ![1]⟩
abbrev S1x1x1x1x1 : Shape := ⟨5, ![1, 1, 1, 1, 1]⟩

abbrev nBuf : Space → Nat
  | .hbm => 86
  | .vmem => 0
  | .smem => 0
  | _ => 0

abbrev bufTy : (tb : Table) → Fin (tcTables nBuf tb) → BufTy
  | .hbm, ⟨0, _⟩ => ⟨S16x3x512x512, .f32⟩
  | .hbm, ⟨1, _⟩ => ⟨S16x3x512x512, .f32⟩
  | .hbm, ⟨2, _⟩ => ⟨S256, .f32⟩
  | .hbm, ⟨3, _⟩ => ⟨S_, .f32⟩
  | .hbm, ⟨4, _⟩ => ⟨S16x3x512x512, .f32⟩
  | .hbm, ⟨5, _⟩ => ⟨S16x3x512x512, .f32⟩
  | .hbm, ⟨6, _⟩ => ⟨S16x3x512x512, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S16x3x512x512, .i32⟩
  | .hbm, ⟨11, _⟩ => ⟨S16x3x512x512, .i32⟩
  | .hbm, ⟨12, _⟩ => ⟨S_, .i32⟩
  | .hbm, ⟨13, _⟩ => ⟨S16x3x512x512, .i32⟩
  | .hbm, ⟨14, _⟩ => ⟨S16x3x512x512, .i32⟩
  | .hbm, ⟨15, _⟩ => ⟨S_, .i32⟩
  | .hbm, ⟨16, _⟩ => ⟨S16x3x512x512, .i32⟩
  | .hbm, ⟨17, _⟩ => ⟨S16x3x512x512, .i1⟩
  | .hbm, ⟨18, _⟩ => ⟨S_, .i32⟩
  | .hbm, ⟨19, _⟩ => ⟨S16x3x512x512, .i32⟩
  | .hbm, ⟨20, _⟩ => ⟨S16x3x512x512, .i32⟩
  | .hbm, ⟨21, _⟩ => ⟨S16x3x512x512, .i32⟩
  | .hbm, ⟨22, _⟩ => ⟨S16x3x512x512x1, .i32⟩
  | .hbm, ⟨23, _⟩ => ⟨S1, .i32⟩
  | .hbm, ⟨24, _⟩ => ⟨S_, .i32⟩
  | .hbm, ⟨25, _⟩ => ⟨S16x3x512x512x1, .i32⟩
  | .hbm, ⟨26, _⟩ => ⟨S16x3x512x512x1, .i1⟩
  | .hbm, ⟨27, _⟩ => ⟨S1x1x1x1x1, .i32⟩
  | .hbm, ⟨28, _⟩ => ⟨S16x3x512x512x1, .i32⟩
  | .hbm, ⟨29, _⟩ => ⟨S16x3x512x512x1, .i1⟩
  | .hbm, ⟨30, _⟩ => ⟨S16x3x512x512x1, .i1⟩
  | .hbm, ⟨31, _⟩ => ⟨S_, .i1⟩
  | .hbm, ⟨32, _⟩ => ⟨S16x3x512x512, .i1⟩
  | .hbm, ⟨33, _⟩ => ⟨S16x3x512x512, .f32⟩
  | .hbm, ⟨34, _⟩ => ⟨S_, .f32⟩
  | .hbm, ⟨35, _⟩ => ⟨S16x3x512x512, .f32⟩
  | .hbm, ⟨36, _⟩ => ⟨S16x3x512x512, .f32⟩
  | .hbm, ⟨37, _⟩ => ⟨S16x3x512x512, .f32⟩
  | .hbm, ⟨38, _⟩ => ⟨S16x3x512x512, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S16x3x512x512, .f32⟩
  | .hbm, ⟨45, _⟩ => ⟨S16x3x512x512, .f32⟩
  | .hbm, ⟨46, _⟩ => ⟨S_, .f32⟩
  | .hbm, ⟨47, _⟩ => ⟨S16x3x512x512, .f32⟩
  | .hbm, ⟨48, _⟩ => ⟨S16x3x512x512, .f32⟩
  | .hbm, ⟨49, _⟩ => ⟨S16x3x512x512, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S16x3x512x512, .f32⟩
  | .hbm, ⟨55, _⟩ => ⟨S_, .f32⟩
  | .hbm, ⟨56, _⟩ => ⟨S16x3x512x512, .f32⟩
  | .hbm, ⟨57, _⟩ => ⟨S16x3x512x512, .f32⟩
  | .hbm, ⟨58, _⟩ => ⟨S_, .f32⟩
  | .hbm, ⟨59, _⟩ => ⟨S16x3x512x512, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S16x3x512x512, .f32⟩
  | .hbm, ⟨64, _⟩ => ⟨S16x3x512x512, .f32⟩
  | .hbm, ⟨65, _⟩ => ⟨S16x3x512x512, .f32⟩
  | .hbm, ⟨66, _⟩ => ⟨S16x3x512x512, .i1⟩
  | .hbm, ⟨67, _⟩ => ⟨S_, .f32⟩
  | .hbm, ⟨68, _⟩ => ⟨S16x3x512x512, .f32⟩
  | .hbm, ⟨69, _⟩ => ⟨S16x3x512x512, .f32⟩
  | .hbm, ⟨70, _⟩ => ⟨S16x3x512x512, .f32⟩
  | .hbm, ⟨71, _⟩ => ⟨S16x3x512x512, .f32⟩
  | .hbm, ⟨72, _⟩ => ⟨S16x3x512x512, .f32⟩
  | .hbm, ⟨73, _⟩ => ⟨S_, .f32⟩
  | .hbm, ⟨74, _⟩ => ⟨S_, .f32⟩
  | .hbm, ⟨75, _⟩ => ⟨S16x3x512x512, .f32⟩
  | .hbm, ⟨76, _⟩ => ⟨S16x3x512x512, .f32⟩
  | .hbm, ⟨77, _⟩ => ⟨S16x3x512x512, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | _, _ => ⟨S16x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v3 : Ref sig .tc := ⟨.hbm, 14, rfl⟩
abbrev main_call1_c : Ref sig .tc := ⟨.hbm, 15, rfl⟩
abbrev main_call1_v0 : Ref sig .tc := ⟨.hbm, 16, rfl⟩
abbrev main_call1_v1 : Ref sig .tc := ⟨.hbm, 17, rfl⟩
abbrev main_call1_c_0 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_call1_v5 : Ref sig .tc := ⟨.hbm, 22, rfl⟩
abbrev main_call1_c_1 : Ref sig .tc := ⟨.hbm, 23, rfl⟩
abbrev main_call1_c_2 : Ref sig .tc := ⟨.hbm, 24, rfl⟩
abbrev main_call1_v6 : Ref sig .tc := ⟨.hbm, 25, rfl⟩
abbrev main_call1_v7 : Ref sig .tc := ⟨.hbm, 26, rfl⟩
abbrev main_call1_v8 : Ref sig .tc := ⟨.hbm, 27, rfl⟩
abbrev main_call1_v9 : Ref sig .tc := ⟨.hbm, 28, rfl⟩
abbrev main_call1_v10 : Ref sig .tc := ⟨.hbm, 29, rfl⟩
abbrev main_call1_v11 : Ref sig .tc := ⟨.hbm, 30, rfl⟩
abbrev main_call1_c_3 : Ref sig .tc := ⟨.hbm, 31, rfl⟩
abbrev main_call1_v12 : Ref sig .tc := ⟨.hbm, 32, rfl⟩
abbrev main_call1_v13 : Ref sig .tc := ⟨.hbm, 33, rfl⟩
abbrev main_call1_cst : Ref sig .tc := ⟨.hbm, 34, rfl⟩
abbrev main_call1_v14 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_cst_1 : Ref sig .tc := ⟨.hbm, 39, rfl⟩
abbrev main_v7 : Ref sig .tc := ⟨.hbm, 40, rfl⟩
abbrev main_cst_2 : Ref sig .tc := ⟨.hbm, 41, rfl⟩
abbrev main_v8 : Ref sig .tc := ⟨.hbm, 42, rfl⟩
abbrev main_call2_cst : Ref sig .tc := ⟨.hbm, 43, rfl⟩
abbrev main_call2_v0 : Ref sig .tc := ⟨.hbm, 44, rfl⟩
abbrev main_v9 : Ref sig .tc := ⟨.hbm, 45, rfl⟩
abbrev main_cst_3 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_cst_4 : Ref sig .tc := ⟨.hbm, 50, rfl⟩
abbrev main_v13 : Ref sig .tc := ⟨.hbm, 51, rfl⟩
abbrev main_cst_5 : Ref sig .tc := ⟨.hbm, 52, rfl⟩
abbrev main_v14 : Ref sig .tc := ⟨.hbm, 53, rfl⟩
abbrev main_v15 : Ref sig .tc := ⟨.hbm, 54, rfl⟩
abbrev main_call3_cst : Ref sig .tc := ⟨.hbm, 55, rfl⟩
abbrev main_call3_v0 : Ref sig .tc := ⟨.hbm, 56, rfl⟩
abbrev main_v16 : Ref sig .tc := ⟨.hbm, 57, rfl⟩
abbrev main_cst_6 : Ref sig .tc := ⟨.hbm, 58, rfl⟩
abbrev main_v17 : Ref sig .tc := ⟨.hbm, 59, rfl⟩
abbrev main_cst_7 : Ref sig .tc := ⟨.hbm, 60, rfl⟩
abbrev main_cst_8 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_cst_9 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_cst_10 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_cst_11 : Ref sig .tc := ⟨.hbm, 78, rfl⟩
abbrev main_v32 : Ref sig .tc := ⟨.hbm, 79, rfl⟩
abbrev main_cst_12 : Ref sig .tc := ⟨.hbm, 80, rfl⟩
abbrev main_v33 : Ref sig .tc := ⟨.hbm, 81, rfl⟩
abbrev main_cst_13 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩

abbrev nD : Nat := 1
abbrev τ : Topo := Topo.v7x

variable {F : FTy → Type} [FloatOps F]
-- ==== Proof.Ideal.Sweep.lean ====
/-
  One sweep over a chunk. A task keeps sixteen running sums. A trip loads sixteen consecutive words of the chunk in its
  buffer, finds each word's entry of the table, and adds each word's contribution to its sum; a sweep is the 3072 trips
  over one buffer of 49152 words. Here: what a trip computes (`trip`), what a number of trips compute (`sweep`), that a
  trip's check always passes (`chk`), and that the loop, whichever of the kernel's loops it is, computes `sweep` and
  leaves both buffers as they are (`wp_sweep`).
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Ideal

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## What a trip and a sweep compute -/

/-- A word clamped between 0 and 255, both read as signed, is below 256 read as unsigned. -/
theorem clamp_lt (w : BitVec 32) : (IntOp.minsi (IntOp.maxsi w 0#32) 255#32).toNat < 256 := by
  unfold IntOp.minsi IntOp.maxsi
  simp only [BitVec.slt]
  have h0 : (0#32 : BitVec 32).toInt = 0 := by decide
  have h255 : (255#32 : BitVec 32).toInt = 255 := by decide
  have hw := BitVec.toInt_eq_toNat_cond w
  have hl := w.isLt
  split_ifs with h1 h2 h2 <;> simp only [h0, h255, decide_eq_true_eq] at * <;> first | omega | (simp; done) | skip

/-- The table positions a trip looks up are in the table, whatever words it loaded. -/
theorem chk (v : FVec F S16 .f32) : k0_chk1 (k0_pay4 v) := by
  intro a x
  obtain rfl : a = 0 := Subsingleton.elim _ _
  exact clamp_lt _

/-- What a trip makes of the sixteen running sums `acc` and the sixteen words `v` it loaded, the table being `tab`. -/
def trip (tab : Vec F S256 .f32) (acc v : FVec F S16 .f32) : FVec F S16 .f32 :=
  k0_pay5 acc v (loadIdx tab ![k0_pay4 v] (k0_idx1_inb _ (chk v)))

/-- The sixteen words of a chunk that trip `k` loads: words `16 k`, …, `16 k + 15`. -/
def lanes (b : Vec F S49152 .f32) (k : ℕ) : FVec F S16 .f32 :=
  fun j => b fun a => ⟨(16 * k + (j 0).val) % 49152, by obtain rfl : a = 0 := Subsingleton.elim _ _; exact Nat.mod_lt _ (by decide)⟩

/-- The running sums after the first `n` trips over the chunk `b`, from `acc`. -/
def sweep (tab : Vec F S256 .f32) (b : Vec F S49152 .f32) (acc : FVec F S16 .f32) : ℕ → FVec F S16 .f32
  | 0 => acc
  | n + 1 => trip tab (sweep tab b acc n) (lanes b n)

/-! ## The loop computes it -/

abbrev UH : Type := URounds (GSem nD τ sig) ℕ
abbrev UU : Type := UH × Counters
local notation "𝕄" => MT nD τ sig (HIx 1) (Elt F) ℕ UU ℕ
abbrev 𝒱₀ : Variants := Variants.none
abbrev cV (L : grid0.Coords) : Fin τ.nSC := (L 0).castLE hcore0
abbrev jV (L : grid0.Coords) : Fin τ.nSub := (L 1).castLE hsub0

/-- The sixteen words loaded at offset `16 k`, `k` below 3072, are the buffer's `lanes`. -/
theorem readAt_lanes {cs : CoreSpace} (buf : Memref sig .scVector cs S49152 .f32) {off : Fin 1 → ℕ}
    (inb : ∀ a, off a + S16.size a ≤ S49152.size a) {k : ℕ} (hk : k < 3072) (hoff : off = ![16 * k]) (f : buf.view.ty.Contents (Elt F)) :
    buf.view.readAt (Elt F) (Rect.unit (s := S49152) off S16.size inb).toLoadRect f = lanes (buf.view.read (Elt F) f) k := by
  subst hoff
  funext j
  rw [View.readAt_apply]
  unfold lanes
  congr 1
  funext a
  obtain rfl : a = 0 := Subsingleton.elim _ _
  apply Fin.ext
  have hj : (j 0).val < 16 := (j 0).isLt
  rw [LoadRect.idx_apply]
  show 16 * k + 1 * (j 0).val = (16 * k + (j 0).val) % 49152
  omega

/-- The table read through its whole-array rectangle is the table. -/
theorem read_access_tab {cs : CoreSpace} (tab : Memref sig .scVector cs S256 .f32) (g : tab.view.ty.Contents (Elt F)) :
    (tab.access (.whole S256)).read (Elt F) g = tab.view.read (Elt F) g := by
  funext x
  show tab.view.read (Elt F) g ((Rect.whole S256).emb x) = _
  rw [Rect.emb_whole_apply]

section Loop

variable (d : Dev nD) (L : grid0.Coords)

/-- A trip as a program: load sixteen words of `buf`, find the table's entries, add the contributions. -/
def tripProg (buf : Memref sig .scVector .vmem S49152 .f32) (tab : Memref sig .scVector .vmem S256 .f32) {n : ℕ}
    (off : Fin n → Fin 1 → ℕ) (inb : ∀ k a, off k a + S16.size a ≤ S49152.size a) :
    Fin n → FVec F S16 .f32 → Prog (TpuEff nD τ sig (Elt F) Λ₀ (.scVector (cV L) (jV L))) (FVec F S16 .f32) :=
  fun k acc => do
    let v64 : Vec F S16 .f32 ← Prog.lift (.load buf (Rect.unit (s := S49152) (off k) S16.size (inb k)).toLoadRect (View.loadsAt_vmem h_S16))
    have v71 : IVec S16 32 := k0_pay4 v64
    have hw : k0_chk1 v71 := (← Prog.lift (TpuEff.assume (k0_chk1 v71) (k0_chk1.dec v71))).down
    let v72 : Vec F S16 .f32 ← SparseCore.vectorLoadIdx tab ![v71] (k0_idx1_inb v71 hw) (View.loads_vmem h_S256)
    pure (k0_pay5 acc v64 v72)

/-- A loop over a buffer: whichever loop of 3072 trips it is, if its trip `k` is `tripProg` at offset `16 k`, then
    holding the buffer and the table the program goes on with the sweep's sums, both still held. -/
theorem wp_sweep (buf : Memref sig .scVector .vmem S49152 .f32) (tab : Memref sig .scVector .vmem S256 .f32)
    (l : Scf.Loop 32) (hok : l.OK) (hl : l.trips = 3072) (off : Fin l.trips → Fin 1 → ℕ)
    (inb : ∀ k a, off k a + S16.size a ≤ S49152.size a) (hoff : ∀ k, off k = ![16 * k.val])
    (body : Fin l.trips → FVec F S16 .f32 → Prog (TpuEff nD τ sig (Elt F) Λ₀ (.scVector (cV L) (jV L))) (FVec F S16 .f32))
    (hprog : body = tripProg L buf tab off inb)
    (f : buf.view.ty.Contents (Elt F)) (g : tab.view.ty.Contents (Elt F)) (acc : FVec F S16 .f32)
    {b : Vec F S49152 .f32} {t : Vec F S256 .f32} (hb : buf.view.read (Elt F) f = b) (ht : tab.view.read (Elt F) g = t)
    {β : Type} {kk : FVec F S16 .f32 → Prog (TpuEff nD τ sig (Elt F) Λ₀ (.scVector (cV L) (jV L))) β} {Q : β → sProp 𝕄} :
    iprop((buf.view.loc (V d (cV L) (jV L)) ↦{fullShare} f) ∗ (tab.view.loc (V d (cV L) (jV L)) ↦{fullShare} g))
      ⊢ iprop((((buf.view.loc (V d (cV L) (jV L)) ↦{fullShare} f) ∗ (tab.view.loc (V d (cV L) (jV L)) ↦{fullShare} g))
          -∗ wp frame (wpE (defs₀ (F := F)) 𝒱₀ (V d (cV L) (jV L)) none) Set.univ
              (kk (sweep t b acc 3072)) Q)
        -∗ wp frame (wpE (defs₀ (F := F)) 𝒱₀ (V d (cV L) (jV L)) none) Set.univ
          (Scf.Loop.for l hok acc body >>= kk) Q) := by
  subst hprog hb ht
  have hbody := fun body hb => Scf.wp_for_bind (M := 𝕄) frame (wpE (defs₀ (F := F)) 𝒱₀ (V d (cV L) (jV L)) none) Set.univ l.lb l.ub l.st hok acc body
    (fun n a => iprop(⌜a = sweep (tab.view.read (Elt F) g) (buf.view.read (Elt F) f) acc n⌝ ∗ (buf.view.loc (V d (cV L) (jV L)) ↦{fullShare} f)
      ∗ (tab.view.loc (V d (cV L) (jV L)) ↦{fullShare} g))) hb (kk := kk) (Q := Q)
  iintro ⟨Hb, Ht⟩ HK
  iapply (hbody _ ?hb) $$ [Hb Ht]
  case hb =>
    intro k a
    have hk : k.val < 3072 := hl ▸ k.isLt
    iintro ⟨%ha, Hb, Ht⟩
    subst ha
    unfold tripProg
    simp only [Prog.lift, Prog.bind_op, Prog.bind_ret, Prog.pure_eq_ret]
    iapply (wp_load 𝒱₀ (V d (cV L) (jV L)) none Set.univ (m := buf) (S := Finset.univ) (Finset.subset_univ _)) $$ Hb; iintro Hb
    rw [readAt_lanes buf (inb k) hk (hoff k)]
    rw [wp_assume_of _ _ _ _ (chk _)]
    iapply (SparseCore.wp_vectorLoadIdx 𝒱₀ (V d (cV L) (jV L)) none Set.univ (base := tab) (S := Finset.univ) (q := fullShare) (Finset.subset_univ _)) $$ Ht; iintro Ht
    sl_step
    isplitr
    · ipureintro
      rw [read_access_tab]; rfl
    isplitl [Hb]; · iexact Hb
    iexact Ht
  · isplitr
    · ipureintro; rfl
    isplitl [Hb]; · iexact Hb
    iexact Ht
  iintro %a ⟨%ha, Hb, Ht⟩
  have ha' : a = sweep (tab.view.read (Elt F) g) (buf.view.read (Elt F) f) acc 3072 := hl ▸ ha
  subst ha'
  iapply HK
  isplitl [Hb]; · iexact Hb
  iexact Ht

end Loop

end Cert.Proof.Ideal
-- ==== Proof.Ideal.Tile.lean ====
/-
  A task, on tile `(c, s)`: it owns eight consecutive chunks of the flat array, each of 49152 words, and a row of sixteen
  words of the result. It fetches the table, then the chunks one after another into two buffers in turn — while it
  sweeps over one buffer the next chunk is on its way into the other —, and writes its sixteen sums to its row.
-/
module

public import proofs.«01_k».proof.Proof.Ideal.Sweep
public import Idealize.ShloMosaic.Lib.VecWindow

@[expose] public section

noncomputable section

namespace Cert.Proof.Ideal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

abbrev EH : Emb UH (MT nD τ sig (HIx 1) (Elt F) ℕ UU ℕ) := embL

/-! ## The arrays and their pieces -/

abbrev aLoc (d : Dev nD) : Loc nD τ sig := (SparseCore.T d).loc main_arg0
abbrev bLoc (d : Dev nD) : Loc nD τ sig := (SparseCore.T d).loc main_arg1
abbrev tLoc (d : Dev nD) : Loc nD τ sig := (SparseCore.T d).loc main_arg2
abbrev xLoc (d : Dev nD) : Loc nD τ sig := (SparseCore.T d).loc main_v0
abbrev oLoc (d : Dev nD) : Loc nD τ sig := (SparseCore.T d).loc main_v1

local notation "xV" => (Memref.whole Cert.KernelIdeal.main_v0_scv : Memref Cert.KernelIdeal.sig Kind.scVector Space.hbm Cert.KernelIdeal.S12582912 EltTy.f32)
local notation "tV" => (Memref.whole Cert.KernelIdeal.main_arg2_scv : Memref Cert.KernelIdeal.sig Kind.scVector Space.hbm Cert.KernelIdeal.S256 EltTy.f32)
local notation "oV" => (Memref.whole Cert.KernelIdeal.main_v1_scv : Memref Cert.KernelIdeal.sig Kind.scVector Space.hbm Cert.KernelIdeal.S512 EltTy.f32)
local notation "sT" => (Memref.whole Cert.KernelIdeal.cc0_scratch0 : Memref Cert.KernelIdeal.sig Kind.scVector Space.vmem Cert.KernelIdeal.S256 EltTy.f32)
local notation "sA" => (Memref.whole Cert.KernelIdeal.cc0_scratch1 : Memref Cert.KernelIdeal.sig Kind.scVector Space.vmem Cert.KernelIdeal.S49152 EltTy.f32)
local notation "sB" => (Memref.whole Cert.KernelIdeal.cc0_scratch2 : Memref Cert.KernelIdeal.sig Kind.scVector Space.vmem Cert.KernelIdeal.S49152 EltTy.f32)
local notation "sO" => (Memref.whole Cert.KernelIdeal.cc0_scratch3 : Memref Cert.KernelIdeal.sig Kind.scVector Space.vmem Cert.KernelIdeal.S16 EltTy.f32)

/-- The chunk of the flat array at a task's offset `w` (`w` the words before it among the task's own), and the task's row
    of the result, as the task addresses them. -/
abbrev xCh (L : grid0.Coords) (r : Fin 8) : Memref sig .scVector .hbm S49152 .f32 :=
  (xV).slice (Rect.unit (s := S12582912) (k0_off1 L (BitVec.ofNat 32 (49152 * r.val))) S49152.size (k0_off1_inb L r)) (fun _ => rfl)
abbrev oRow (L : grid0.Coords) : Memref sig .scVector .hbm S16 .f32 :=
  (oV).slice (Rect.unit (s := S512) (k0_off10 L) S16.size (k0_off10_inb L)) (fun _ => rfl)

abbrev xChPts (d : Dev nD) (L : grid0.Coords) (fx : Buf (Elt F) (xLoc d)) (r : Fin 8) : sProp 𝕄 :=
  xLoc d ↦[(xCh L r).view.set]{fullShare} fx
abbrev oRowPts (d : Dev nD) (L : grid0.Coords) (fo : Buf (Elt F) (oLoc d)) : sProp 𝕄 := oLoc d ↦[(oRow L).view.set]{fullShare} fo

/-! ## The sums a task computes -/

/-- A task's number: two tasks, one per SparseCore, for each tile. -/
def wid (L : grid0.Coords) : ℕ := 2 * (L 1).val + (L 0).val

/-- Chunk `r` of task `w`: 49152 words of the flat array. -/
def chunk (x : Vec F S12582912 .f32) (w r : ℕ) : Vec F S49152 .f32 :=
  fun j => x fun a => ⟨(393216 * w + 49152 * r + (j 0).val) % 12582912, by obtain rfl : a = 0 := Subsingleton.elim _ _; exact Nat.mod_lt _ (by decide)⟩

/-- Task `w`'s sixteen sums after its first `n` chunks. -/
def sums (tab : Vec F S256 .f32) (x : Vec F S12582912 .f32) (w : ℕ) : ℕ → FVec F S16 .f32
  | 0 => k0_pay3
  | n + 1 => sweep tab (chunk x w n) (sums tab x w n) 3072

/-- The result: word `n` is lane `n % 16` of task `n / 16`'s sums over its eight chunks. -/
def result (tab : Vec F S256 .f32) (x : Vec F S12582912 .f32) : Vec F S512 .f32 :=
  fun n => sums tab x ((n 0).val / 16) 8 fun a => ⟨(n 0).val % 16, by obtain rfl : a = 0 := Subsingleton.elim _ _; exact Nat.mod_lt _ (by decide)⟩

section Tile

variable (d : Dev nD) (L : grid0.Coords)

/-- A chunk as the task reads it is the task's chunk of the flat array. -/
theorem read_xCh (fx : Buf (Elt F) (xLoc d)) (r : Fin 8) : (xCh L r).view.read (Elt F) fx = chunk fx (wid L) r.val := by
  funext j
  show fx ((xCh L r).view.emb j) = _
  unfold chunk
  congr 1
  funext (a : Fin 1)
  obtain rfl : a = 0 := Subsingleton.elim _ _
  apply Fin.ext
  have hj : (j 0).val < 49152 := (j 0).isLt
  have h0 : (L 0).val < 2 := (L 0).isLt
  have h1 : (L 1).val < 16 := (L 1).isLt
  have hr := r.isLt
  show k0_off1 L (BitVec.ofNat 32 (49152 * r.val)) 0 + 1 * (j 0).val = (393216 * wid L + 49152 * r.val + (j 0).val) % 12582912
  rw [k0_off1_eq]
  unfold wid
  show 786432 * (L 1).val + 393216 * (L 0).val + 49152 * r.val + 1 * (j 0).val = _
  omega

/-- The row's words are the task's sums, once written. -/
theorem write_oRow (fo : Buf (Elt F) (oLoc d)) (tab : Vec F S256 .f32) (fx : Buf (Elt F) (xLoc d)) :
    (oLoc d ↦[(oRow L).view.set]{fullShare} (oRow L).view.write (Elt F) fo (sums tab fx (wid L) 8) Finset.univ : sProp 𝕄)
      = oLoc d ↦[(oRow L).view.set]{fullShare} result tab fx := by
  refine pointsTo_congr fun i hi => ?_
  obtain ⟨x, -, rfl⟩ := Finset.mem_map.mp hi
  refine (View.write_emb_of_mem _ _ (Finset.mem_univ _)).trans ?_
  have hx : (x 0).val < 16 := (x 0).isLt
  have h0 : (L 0).val < 2 := (L 0).isLt
  have h1 : (L 1).val < 16 := (L 1).isLt
  have he : (((oRow L).view.emb x : S512.Idx) 0).val = 16 * wid L + (x 0).val := by
    show k0_off10 L 0 + 1 * (x 0).val = _
    rw [k0_off10_eq]
    unfold wid
    show 32 * (L 1).val + 16 * (L 0).val + 1 * (x 0).val = _
    omega
  show sums tab fx (wid L) 8 x = result tab fx ((oRow L).view.emb x : S512.Idx)
  unfold result
  have e1 : (((oRow L).view.emb x : S512.Idx) 0).val / 16 = wid L := by omega
  rw [e1]
  congr 1
  funext a
  obtain rfl : a = 0 := Subsingleton.elim _ _
  apply Fin.ext
  show (x 0).val = (((oRow L).view.emb x : S512.Idx) 0).val % 16
  omega

abbrev gcell (d : Dev nD) (c : Fin τ.nSC) (i : Fin τ.nSub) (s : DmaSems sig S_) : GSem nD τ sig := (V d c i, .dma s.sem)

theorem ownSems0_V :
    (ownSems0 (V d (cV L) (jV L)) : sProp 𝕄)
      = iprop(semVal (gcell d (cV L) (jV L) cc0_scratch4) 0 ∗ semVal (gcell d (cV L) (jV L) cc0_scratch5) 0 ∗ semVal (gcell d (cV L) (jV L) cc0_scoped0) 0
          ∗ semVal (gcell d (cV L) (jV L) cc0_scoped1) 0
          ∗ bigSep (((((ownCells (V d (cV L) (jV L))).erase (gcell d (cV L) (jV L) cc0_scratch4)).erase (gcell d (cV L) (jV L) cc0_scratch5)).erase
              (gcell d (cV L) (jV L) cc0_scoped0)).erase (gcell d (cV L) (jV L) cc0_scoped1)) fun g => semVal g 0) := by
  have hmem : ∀ s : DmaSems sig S_, (SemLoc.dma s.sem : SemLoc sig).isScoped .scVector = true → gcell d (cV L) (jV L) s ∈ ownCells (V d (cV L) (jV L)) :=
    fun s hs => (mem_ownCells (g := gcell d (cV L) (jV L) s)).mpr ⟨rfl, hs⟩
  have hne : ∀ s s' : DmaSems sig S_, (SemLoc.dma s.sem : SemLoc sig) ≠ .dma s'.sem → gcell d (cV L) (jV L) s ≠ gcell d (cV L) (jV L) s' :=
    fun s s' h e => h (congrArg Prod.snd e)
  unfold SparseCore.Cfg.ownSems0
  rw [SparseCore.bigSep_erase' (hmem cc0_scratch4 (by decide)),
    SparseCore.bigSep_erase' (Finset.mem_erase.mpr ⟨hne cc0_scratch5 cc0_scratch4 (by decide), hmem cc0_scratch5 (by decide)⟩),
    SparseCore.bigSep_erase' (Finset.mem_erase.mpr ⟨hne cc0_scoped0 cc0_scratch5 (by decide), Finset.mem_erase.mpr ⟨hne cc0_scoped0 cc0_scratch4 (by decide), hmem cc0_scoped0 (by decide)⟩⟩),
    SparseCore.bigSep_erase' (Finset.mem_erase.mpr ⟨hne cc0_scoped1 cc0_scoped0 (by decide), Finset.mem_erase.mpr ⟨hne cc0_scoped1 cc0_scratch5 (by decide),
      Finset.mem_erase.mpr ⟨hne cc0_scoped1 cc0_scratch4 (by decide), hmem cc0_scoped1 (by decide)⟩⟩⟩)]

abbrev dref (b : Ref sig .scVector) : DevRef τ sig := (Proc.scVector (cV L) (jV L)).devRef b

/-- The four scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase (dref L cc0_scratch0)).erase (dref L cc0_scratch1)).erase
              (dref L cc0_scratch2)).erase (dref L cc0_scratch3))
              fun b => iprop(∃ f, ((d, b) : Loc nD τ sig) ↦{fullShare} f)) := by
  have hne : ∀ b b' : Ref sig .scVector, b ≠ b' → dref L b ≠ dref L b' := fun b b' h e => h (Proc.devRef_injective _ e)
  unfold SparseCore.Cfg.ownBufs
  refine (SparseCore.bigSep_erase' (SparseCore.Cfg.mem_ownRefs_of_owner (p := Proc.scVector (cV L) (jV L)) (b := dref L cc0_scratch0) rfl)).trans ?_
  rw [SparseCore.bigSep_erase' (Finset.mem_erase.mpr ⟨hne cc0_scratch1 cc0_scratch0 (by decide),
      SparseCore.Cfg.mem_ownRefs_of_owner (p := Proc.scVector (cV L) (jV L)) (b := dref L cc0_scratch1) rfl⟩),
    SparseCore.bigSep_erase' (Finset.mem_erase.mpr ⟨hne cc0_scratch2 cc0_scratch1 (by decide), Finset.mem_erase.mpr ⟨hne cc0_scratch2 cc0_scratch0 (by decide),
      SparseCore.Cfg.mem_ownRefs_of_owner (p := Proc.scVector (cV L) (jV L)) (b := dref L cc0_scratch2) rfl⟩⟩),
    SparseCore.bigSep_erase' (Finset.mem_erase.mpr ⟨hne cc0_scratch3 cc0_scratch2 (by decide), Finset.mem_erase.mpr ⟨hne cc0_scratch3 cc0_scratch1 (by decide),
      Finset.mem_erase.mpr ⟨hne cc0_scratch3 cc0_scratch0 (by decide), SparseCore.Cfg.mem_ownRefs_of_owner (p := Proc.scVector (cV L) (jV L)) (b := dref L cc0_scratch3) rfl⟩⟩⟩)]

/-- The eight chunks, one by one. -/
theorem eight (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem pts_xCh (fx : Buf (Elt F) (xLoc d)) (r : Fin 8) (w : BitVec 32) (hw : BitVec.ofNat 32 (49152 * r.val) = w)
    (inb : ∀ a, k0_off1 L w a + S49152.size a ≤ S12582912.size a) :
    (xChPts d L fx r : sProp 𝕄)
      = ((xV).slice (Rect.unit (s := S12582912) (k0_off1 L w) S49152.size inb) (fun _ => rfl)).view.loc (V d (cV L) (jV L))
          ↦[((xV).slice (Rect.unit (s := S12582912) (k0_off1 L w) S49152.size inb) (fun _ => rfl)).view.set]{fullShare} fx := by
  subst hw; rfl
theorem pts_oRow (f : Buf (Elt F) (oLoc d)) :
    (oRowPts d L f : sProp 𝕄) = (oRow L).view.loc (V d (cV L) (jV L)) ↦[(oRow L).view.set]{fullShare} f := rfl
theorem pts_tV (q : PosShare TreeShare) (f : Buf (Elt F) (tLoc d)) :
    (tLoc d ↦{q} f : sProp 𝕄) = (tV).view.loc (V d (cV L) (jV L)) ↦{q} f := rfl
theorem pts_sT (f : Buf (Elt F) ((V d (cV L) (jV L)).loc cc0_scratch0)) :
    ((V d (cV L) (jV L)).loc cc0_scratch0 ↦{fullShare} f : sProp 𝕄) = (sT).view.loc (V d (cV L) (jV L)) ↦{fullShare} f := rfl
theorem pts_sA (f : Buf (Elt F) ((V d (cV L) (jV L)).loc cc0_scratch1)) :
    ((V d (cV L) (jV L)).loc cc0_scratch1 ↦{fullShare} f : sProp 𝕄) = (sA).view.loc (V d (cV L) (jV L)) ↦{fullShare} f := rfl
theorem pts_sB (f : Buf (Elt F) ((V d (cV L) (jV L)).loc cc0_scratch2)) :
    ((V d (cV L) (jV L)).loc cc0_scratch2 ↦{fullShare} f : sProp 𝕄) = (sB).view.loc (V d (cV L) (jV L)) ↦{fullShare} f := rfl
theorem pts_sO (f : Buf (Elt F) ((V d (cV L) (jV L)).loc cc0_scratch3)) :
    ((V d (cV L) (jV L)).loc cc0_scratch3 ↦{fullShare} f : sProp 𝕄) = (sO).view.loc (V d (cV L) (jV L)) ↦{fullShare} f := rfl

/-- The fetched table, in the buffer it lands in. -/
theorem landT (f : Buf (Elt F) ((V d (cV L) (jV L)).loc cc0_scratch0)) (ft : Buf (Elt F) (tLoc d)) {p : Vec F S256 .f32}
    (hp : p = (tV).view.read (Elt F) ft) :
    ((sT).view.loc (V d (cV L) (jV L)) ↦{fullShare} (sT).view.write (Elt F) f p Finset.univ : sProp 𝕄)
      = (sT).view.loc (V d (cV L) (jV L)) ↦{fullShare} ft := by
  rw [View.write_whole_univ, hp]; rfl
/-- Chunk `r` has landed in the first buffer and the task's sums over its first `r` chunks are known: a loop over that
    buffer carries on to the sums over the first `r + 1`. -/
theorem sweepA (r : Fin 8) (l : Scf.Loop 32) (hok : l.OK) (hl : l.trips = 3072) (off : Fin l.trips → Fin 1 → ℕ)
    (inb : ∀ k a, off k a + S16.size a ≤ S49152.size a) (hoff : ∀ k, off k = ![16 * k.val])
    (body : Fin l.trips → FVec F S16 .f32 → Prog (TpuEff nD τ sig (Elt F) Λ₀ (.scVector (cV L) (jV L))) (FVec F S16 .f32))
    (hprog : body = tripProg L sA sT off inb) (fx : Buf (Elt F) (xLoc d)) (ft : Buf (Elt F) (tLoc d))
    (f : Buf (Elt F) ((V d (cV L) (jV L)).loc cc0_scratch1)) {p : Vec F S49152 .f32} (hp : p = (xCh L r).view.read (Elt F) fx)
    {β : Type} {kk : FVec F S16 .f32 → Prog (TpuEff nD τ sig (Elt F) Λ₀ (.scVector (cV L) (jV L))) β} {Q : β → sProp 𝕄} :
    iprop(((sA).view.loc (V d (cV L) (jV L)) ↦{fullShare} (sA).view.write (Elt F) f p Finset.univ)
        ∗ ((sT).view.loc (V d (cV L) (jV L)) ↦{fullShare} ft))
      ⊢ iprop((((sA).view.loc (V d (cV L) (jV L)) ↦{fullShare} chunk fx (wid L) r.val) ∗ ((sT).view.loc (V d (cV L) (jV L)) ↦{fullShare} ft)
          -∗ wp frame (wpE (defs₀ (F := F)) 𝒱₀ (V d (cV L) (jV L)) none) Set.univ (kk (sums ft fx (wid L) (r.val + 1))) Q)
        -∗ wp frame (wpE (defs₀ (F := F)) 𝒱₀ (V d (cV L) (jV L)) none) Set.univ (Scf.Loop.for l hok (sums ft fx (wid L) r.val) body >>= kk) Q) := by
  rw [View.write_whole_univ, hp, read_xCh]
  exact wp_sweep d L sA sT l hok hl off inb hoff body hprog (chunk fx (wid L) r.val) ft _ (b := chunk fx (wid L) r.val) (t := ft) rfl rfl

/-- Chunk `r` has landed in the second buffer and the task's sums over its first `r` chunks are known: a loop over that
    buffer carries on to the sums over the first `r + 1`. -/
theorem sweepB (r : Fin 8) (l : Scf.Loop 32) (hok : l.OK) (hl : l.trips = 3072) (off : Fin l.trips → Fin 1 → ℕ)
    (inb : ∀ k a, off k a + S16.size a ≤ S49152.size a) (hoff : ∀ k, off k = ![16 * k.val])
    (body : Fin l.trips → FVec F S16 .f32 → Prog (TpuEff nD τ sig (Elt F) Λ₀ (.scVector (cV L) (jV L))) (FVec F S16 .f32))
    (hprog : body = tripProg L sB sT off inb) (fx : Buf (Elt F) (xLoc d)) (ft : Buf (Elt F) (tLoc d))
    (f : Buf (Elt F) ((V d (cV L) (jV L)).loc cc0_scratch2)) {p : Vec F S49152 .f32} (hp : p = (xCh L r).view.read (Elt F) fx)
    {β : Type} {kk : FVec F S16 .f32 → Prog (TpuEff nD τ sig (Elt F) Λ₀ (.scVector (cV L) (jV L))) β} {Q : β → sProp 𝕄} :
    iprop(((sB).view.loc (V d (cV L) (jV L)) ↦{fullShare} (sB).view.write (Elt F) f p Finset.univ)
        ∗ ((sT).view.loc (V d (cV L) (jV L)) ↦{fullShare} ft))
      ⊢ iprop((((sB).view.loc (V d (cV L) (jV L)) ↦{fullShare} chunk fx (wid L) r.val) ∗ ((sT).view.loc (V d (cV L) (jV L)) ↦{fullShare} ft)
          -∗ wp frame (wpE (defs₀ (F := F)) 𝒱₀ (V d (cV L) (jV L)) none) Set.univ (kk (sums ft fx (wid L) (r.val + 1))) Q)
        -∗ wp frame (wpE (defs₀ (F := F)) 𝒱₀ (V d (cV L) (jV L)) none) Set.univ (Scf.Loop.for l hok (sums ft fx (wid L) r.val) body >>= kk) Q) := by
  rw [View.write_whole_univ, hp, read_xCh]
  exact wp_sweep d L sB sT l hok hl off inb hoff body hprog (chunk fx (wid L) r.val) ft _ (b := chunk fx (wid L) r.val) (t := ft) rfl rfl

variable (q : PosShare TreeShare) (fx : Buf (Elt F) (xLoc d)) (ft : Buf (Elt F) (tLoc d)) (fo : Buf (Elt F) (oLoc d))

set_option maxHeartbeats 4000000 in
/-- One tile's task: from its share of the flat images and of the table, it leaves in its sixteen words of the output the
    sums over its eight chunks, and gives everything else back as it was. -/
theorem tile_body (hF : (K (F := F)).Facts) (O : CellTallies nD τ sig (HIx 1)) (W : Waits sig (HIx 1)) (hO : ∀ g, O g none = 0) :
    iprop(levAts (K (F := F)).L (K (F := F)).lev ∗ emp
        ∗ ((bigSep Finset.univ (xChPts d L fx)) ∗ (tLoc d ↦{q} ft) ∗ oRowPts d L fo)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_loss_kernel L xV (Memref.isWhole_whole _) tV (Memref.isWhole_whole _) oV (Memref.isWhole_whole _)
            sT (Memref.isWhole_whole _) sA (Memref.isWhole_whole _) sB (Memref.isWhole_whole _) sO (Memref.isWhole_whole _)
            cc0_scratch4 cc0_scratch5 cc0_scoped0 cc0_scoped1)
          fun _ => iprop(((bigSep Finset.univ (xChPts d L fx)) ∗ (tLoc d ↦{q} ft) ∗ oRowPts d L (result ft fx))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_loss_kernel_eq_skeleton]; unfold cc0__sc_loss_kernel_skel
  simp only [k0_part1_eq_skeleton, k0_part2_eq_skeleton]; unfold k0_part1_skel k0_part2_skel
  simp (proj := false) only [Prog.bind_assoc, Prog.lift, Prog.bind_op, Prog.bind_ret, Prog.pure_eq_ret]
  rw [(K (F := F)).scopedBufs_V hF d (cV L) (jV L), SparseCore.Cfg.scopedSems0_V (Val := Elt F) d (cV L) (jV L), ownSems0_V, ownBufs_V, eight]
  iintro ⟨#Hlv, -, ⟨⟨Hx0, Hx1, Hx2, Hx3, Hx4, Hx5, Hx6, Hx7⟩, Ht, Ho⟩, ⟨⟨%f0, Hs0⟩, ⟨%f1, Hs1⟩, ⟨%f2, Hs2⟩, ⟨%f3, Hs3⟩, Hbufs⟩,
    ⟨Hc0, Hc1, Hc2, Hc3, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx0 := (Entails.of_eq (pts_xCh (F := F) d L fx 0 0#32 rfl (k0_off1_inb L 0))) $$ Hx0
  ihave Hx1 := (Entails.of_eq (pts_xCh (F := F) d L fx 1 49152#32 rfl (k0_off1_inb L 1))) $$ Hx1
  ihave Hx2 := (Entails.of_eq (pts_xCh (F := F) d L fx 2 98304#32 rfl (k0_off1_inb L 2))) $$ Hx2
  ihave Hx3 := (Entails.of_eq (pts_xCh (F := F) d L fx 3 147456#32 rfl (k0_off1_inb L 3))) $$ Hx3
  ihave Hx4 := (Entails.of_eq (pts_xCh (F := F) d L fx 4 196608#32 rfl (k0_off1_inb L 4))) $$ Hx4
  ihave Hx5 := (Entails.of_eq (pts_xCh (F := F) d L fx 5 245760#32 rfl (k0_off1_inb L 5))) $$ Hx5
  ihave Hx6 := (Entails.of_eq (pts_xCh (F := F) d L fx 6 294912#32 rfl (k0_off1_inb L 6))) $$ Hx6
  ihave Hx7 := (Entails.of_eq (pts_xCh (F := F) d L fx 7 344064#32 rfl (k0_off1_inb L 7))) $$ Hx7
  ihave Ht := (Entails.of_eq (pts_tV (F := F) d L q ft)) $$ Ht
  ihave Ho := (Entails.of_eq (pts_oRow (F := F) d L fo)) $$ Ho
  ihave Hs0 := (Entails.of_eq (pts_sT (F := F) d L f0)) $$ Hs0
  ihave Hs1 := (Entails.of_eq (pts_sA (F := F) d L f1)) $$ Hs1
  ihave Hs2 := (Entails.of_eq (pts_sB (F := F) d L f2)) $$ Hs2
  ihave Hs3 := (Entails.of_eq (pts_sO (F := F) d L f3)) $$ Hs3
  sl_exec
  ihave Hs0 := (Entails.of_eq (landT (F := F) d L f0 ft (p := tile_body.sl.dma0 d ft) rfl)) $$ Hs0
  -- chunk 0 is in buffer A: sweep over it
  iapply (sweepA (F := F) d L 0 k0_t1_loop k0_t1_ok rfl k0_off2 k0_off2_inb k0_off2_eq _ rfl fx ft _
    (p := tile_body.sl.dma0_1 d L fx) rfl) $$ [Hs1 Hs0]
  · isplitl [Hs1] <;> iassumption
  iintro ⟨Hs1, Hs0⟩
  sl_exec
  -- chunk 1 is in buffer B: sweep over it
  iapply (sweepB (F := F) d L 1 k0_t2_loop k0_t2_ok rfl k0_off3 k0_off3_inb k0_off3_eq _ rfl fx ft _
    (p := tile_body.sl.dma0_2 d L fx) rfl) $$ [Hs2 Hs0]
  · isplitl [Hs2] <;> iassumption
  iintro ⟨Hs2, Hs0⟩
  sl_exec
  -- chunk 2 is in buffer A: sweep over it
  iapply (sweepA (F := F) d L 2 k0_t3_loop k0_t3_ok rfl k0_off4 k0_off4_inb k0_off4_eq _ rfl fx ft _
    (p := tile_body.sl.dma0_3 d L fx) rfl) $$ [Hs1 Hs0]
  · isplitl [Hs1] <;> iassumption
  iintro ⟨Hs1, Hs0⟩
  sl_exec
  -- chunk 3 is in buffer B: sweep over it
  iapply (sweepB (F := F) d L 3 k0_t4_loop k0_t4_ok rfl k0_off5 k0_off5_inb k0_off5_eq _ rfl fx ft _
    (p := tile_body.sl.dma0_4 d L fx) rfl) $$ [Hs2 Hs0]
  · isplitl [Hs2] <;> iassumption
  iintro ⟨Hs2, Hs0⟩
  sl_exec
  -- chunk 4 is in buffer A: sweep over it
  iapply (sweepA (F := F) d L 4 k0_t5_loop k0_t5_ok rfl k0_off6 k0_off6_inb k0_off6_eq _ rfl fx ft _
    (p := tile_body.sl.dma0_5 d L fx) rfl) $$ [Hs1 Hs0]
  · isplitl [Hs1] <;> iassumption
  iintro ⟨Hs1, Hs0⟩
  sl_exec
  -- chunk 5 is in buffer B: sweep over it
  iapply (sweepB (F := F) d L 5 k0_t6_loop k0_t6_ok rfl k0_off7 k0_off7_inb k0_off7_eq _ rfl fx ft _
    (p := tile_body.sl.dma0_6 d L fx) rfl) $$ [Hs2 Hs0]
  · isplitl [Hs2] <;> iassumption
  iintro ⟨Hs2, Hs0⟩
  sl_exec
  -- chunk 6 is in buffer A: sweep over it
  iapply (sweepA (F := F) d L 6 k0_t7_loop k0_t7_ok rfl k0_off8 k0_off8_inb k0_off8_eq _ rfl fx ft _
    (p := tile_body.sl.dma0_7 d L fx) rfl) $$ [Hs1 Hs0]
  · isplitl [Hs1] <;> iassumption
  iintro ⟨Hs1, Hs0⟩
  sl_exec
  -- chunk 7 is in buffer B: sweep over it
  iapply (sweepB (F := F) d L 7 k0_t8_loop k0_t8_ok rfl k0_off9 k0_off9_inb k0_off9_eq _ rfl fx ft _
    (p := tile_body.sl.dma0_8 d L fx) rfl) $$ [Hs2 Hs0]
  · isplitl [Hs2] <;> iassumption
  iintro ⟨Hs2, Hs0⟩
  sl_exec
  sl_step
  have hp : tile_body.sl.dma2 d L fx ft f3 = sums ft fx (wid L) 8 := by
    unfold tile_body.sl.dma2 tile_body.sl.Hs3_1
    exact View.read_writes_full _ _ _ _ []
  ihave Ho := (Entails.of_eq (show ((oRow L).view.loc (V d (cV L) (jV L)) ↦[(oRow L).view.set]{fullShare}
      (oRow L).view.writes (Elt F) fo [⟨Rect.whole S16, tile_body.sl.dma2 d L fx ft f3⟩] : sProp 𝕄)
      = oLoc d ↦[(oRow L).view.set]{fullShare} result ft fx by
    rw [hp, ← View.write_univ_eq_writes_whole, View.writes_nil]; exact write_oRow (F := F) d L fo ft fx)) $$ Ho
  isplitl [Hx0 Hx1 Hx2 Hx3 Hx4 Hx5 Hx6 Hx7 Ht Ho]
  · isplitl [Hx0 Hx1 Hx2 Hx3 Hx4 Hx5 Hx6 Hx7]
    · isplitl [Hx0]; · iexact Hx0
      isplitl [Hx1]; · iexact Hx1
      isplitl [Hx2]; · iexact Hx2
      isplitl [Hx3]; · iexact Hx3
      isplitl [Hx4]; · iexact Hx4
      isplitl [Hx5]; · iexact Hx5
      isplitl [Hx6]; · iexact Hx6
      iexact Hx7
    isplitl [Ht]; · iexact Ht
    iexact Ho
  isplitl [Hs0 Hs1 Hs2 Hs3 Hbufs]
  · isplitl [Hs0]; · iexists _; iexact Hs0
    isplitl [Hs1]; · iexists _; iexact Hs1
    isplitl [Hs2]; · iexists _; iexact Hs2
    isplitl [Hs3]; · iexists _; iexact Hs3
    iexact Hbufs
  isplitl [Hc0 Hc1 Hc2 Hc3 Hsems]
  · isplitl [Hc0]; · iexact Hc0
    isplitl [Hc1]; · iexact Hc1
    isplitl [Hc2]; · iexact Hc2
    isplitl [Hc3]; · iexact Hc3
    iexact Hsems
  iexists _; isplitr
  swap; · iexact HO
  ipureintro; intro p hp
  simp only [Finset.mem_insert] at hp
  rcases hp with rfl | rfl | rfl | rfl | rfl | rfl | rfl | rfl | rfl | rfl | hp
  all_goals first | exact .inr rfl | exact .inl hp

end Tile
end Cert.Proof.Ideal
-- ==== Proof.Ideal.Pieces.lean ====
/-
  The arrays, whole, are the pieces the thirty-two tasks hold: the flat array is the eight chunks of each task, the result
  is the tasks' rows, and the table is dealt out in shares, one for each task.
-/
module

public import proofs.«01_k».proof.Proof.Ideal.Tile

@[expose] public section

noncomputable section

namespace Cert.Proof.Ideal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

/-- The grid point of SparseCore `c`'s subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The grid point of task `p`. -/
abbrev tk (p : Fin 2 × Fin 16) : grid0.Coords := coordsV p.1 p.2

theorem mem_xCh (L : grid0.Coords) (r : Fin 8) (y : S12582912.Idx) :
    y ∈ (xCh L r).view.set ↔ 393216 * wid L + 49152 * r.val ≤ (y 0).val ∧ (y 0).val < 393216 * wid L + 49152 * r.val + 49152 := by
  have e : (xCh L r).view.set = (Rect.unit (s := S12582912) (k0_off1 L (BitVec.ofNat 32 (49152 * r.val))) S49152.size (k0_off1_inb L r)).set :=
    View.set_slice_whole _ _
  rw [e, Rect.mem_set_unit]
  unfold wid
  have h0 : k0_off1 L (BitVec.ofNat 32 (49152 * r.val)) 0 = 393216 * (2 * (L 1).val + (L 0).val) + 49152 * r.val := by
    rw [k0_off1_eq]
    show 786432 * (L 1).val + 393216 * (L 0).val + 49152 * r.val = _
    omega
  constructor
  · intro h
    have h := h 0
    rw [h0] at h
    exact h
  · intro h a
    obtain rfl : a = 0 := Subsingleton.elim _ _
    rw [h0]
    exact h

theorem mem_oRow (L : grid0.Coords) (y : S512.Idx) :
    y ∈ (oRow L).view.set ↔ 16 * wid L ≤ (y 0).val ∧ (y 0).val < 16 * wid L + 16 := by
  have e : (oRow L).view.set = (Rect.unit (s := S512) (k0_off10 L) S16.size (k0_off10_inb L)).set := View.set_slice_whole _ _
  rw [e, Rect.mem_set_unit]
  unfold wid
  have h0 : k0_off10 L 0 = 16 * (2 * (L 1).val + (L 0).val) := by
    rw [k0_off10_eq]
    show 32 * (L 1).val + 16 * (L 0).val = _
    omega
  constructor
  · intro h
    have h := h 0
    rw [h0] at h
    exact h
  · intro h a
    obtain rfl : a = 0 := Subsingleton.elim _ _
    rw [h0]
    exact h

theorem wid_tk (p : Fin 2 × Fin 16) : wid (tk p) = 2 * p.2.val + p.1.val := rfl

/-- The elements of chunk `q.2` of task `q.1`, and of task `p`'s row. -/
def xSet (q : (Fin 2 × Fin 16) × Fin 8) : Finset S12582912.Idx := (xCh (tk q.1) q.2).view.set
def oSet (p : Fin 2 × Fin 16) : Finset S512.Idx := (oRow (tk p)).view.set

theorem xSet_cover : (Finset.univ : Finset ((Fin 2 × Fin 16) × Fin 8)).biUnion xSet = Finset.univ := by
  rw [Finset.eq_univ_iff_forall]
  intro y
  have hy : (y 0).val < 12582912 := (y 0).isLt
  refine Finset.mem_biUnion.mpr ⟨((⟨(y 0).val / 393216 % 2, by omega⟩, ⟨(y 0).val / 786432, by omega⟩), ⟨(y 0).val / 49152 % 8, by omega⟩),
    Finset.mem_univ _, (mem_xCh _ _ _).mpr ?_⟩
  rw [wid_tk]
  dsimp only
  omega

theorem xSet_disjoint : ∀ q ∈ (Finset.univ : Finset ((Fin 2 × Fin 16) × Fin 8)), ∀ q' ∈ (Finset.univ : Finset ((Fin 2 × Fin 16) × Fin 8)),
    q ≠ q' → Disjoint (xSet q) (xSet q') := by
  rintro ⟨⟨c, i⟩, r⟩ - ⟨⟨c', i'⟩, r'⟩ - hne
  refine Finset.disjoint_left.mpr fun y h h' => hne ?_
  have h := (mem_xCh _ _ _).mp h
  have h' := (mem_xCh _ _ _).mp h'
  rw [wid_tk] at h h'
  dsimp only at h h'
  have := c.isLt; have := c'.isLt; have := r.isLt; have := r'.isLt
  have e1 : c.val = c'.val := by omega
  have e2 : i.val = i'.val := by omega
  have e3 : r.val = r'.val := by omega
  rw [Fin.ext e1, Fin.ext e2, Fin.ext e3]

theorem oSet_cover : (Finset.univ : Finset (Fin 2 × Fin 16)).biUnion oSet = Finset.univ := by
  rw [Finset.eq_univ_iff_forall]
  intro y
  have hy : (y 0).val < 512 := (y 0).isLt
  refine Finset.mem_biUnion.mpr ⟨(⟨(y 0).val / 16 % 2, by omega⟩, ⟨(y 0).val / 32, by omega⟩), Finset.mem_univ _, (mem_oRow _ _).mpr ?_⟩
  rw [wid_tk]
  dsimp only
  omega

theorem oSet_disjoint : ∀ p ∈ (Finset.univ : Finset (Fin 2 × Fin 16)), ∀ p' ∈ (Finset.univ : Finset (Fin 2 × Fin 16)),
    p ≠ p' → Disjoint (oSet p) (oSet p') := by
  rintro ⟨c, i⟩ - ⟨c', i'⟩ - hne
  refine Finset.disjoint_left.mpr fun y h h' => hne ?_
  have h := (mem_oRow _ _).mp h
  have h' := (mem_oRow _ _).mp h'
  rw [wid_tk] at h h'
  dsimp only at h h'
  have := c.isLt; have := c'.isLt
  have e1 : c.val = c'.val := by omega
  have e2 : i.val = i'.val := by omega
  rw [Fin.ext e1, Fin.ext e2]

/-- The flat array, whole, is the tasks' chunks. -/
theorem xPts_pieces (d : Dev nD) (fx : Buf (Elt F) (xLoc d)) :
    (xLoc d ↦{fullShare} fx : sProp 𝕄) = bigSep Finset.univ fun p : Fin 2 × Fin 16 => bigSep Finset.univ (xChPts d (tk p) fx) := by
  rw [← bigSep_univ_prod (fun (q : (Fin 2 × Fin 16) × Fin 8) => xChPts (F := F) d (tk q.1) fx q.2)]
  have h : (xLoc d ↦[Finset.univ.biUnion xSet]{fullShare} fx : sProp 𝕄) = _ := pointsTo_biUnion Finset.univ (ℓ := xLoc d) xSet xSet_disjoint
  rw [xSet_cover] at h
  exact h

/-- The result, whole, is the tasks' rows. -/
theorem oPts_pieces (d : Dev nD) (fo : Buf (Elt F) (oLoc d)) :
    (oLoc d ↦{fullShare} fo : sProp 𝕄) = bigSep Finset.univ fun p : Fin 2 × Fin 16 => oRowPts d (tk p) fo := by
  have h : (oLoc d ↦[Finset.univ.biUnion oSet]{fullShare} fo : sProp 𝕄) = _ := pointsTo_biUnion Finset.univ (ℓ := oLoc d) oSet oSet_disjoint
  rw [oSet_cover] at h
  exact h

/-- Task `p`'s share of the table. -/
def tq (p : Fin 2 × Fin 16) : PosShare TreeShare := Transfers.shareTok fullShare (2 * 16) (finProdFinEquiv p)
/-- What of the table no task holds. -/
def tRest : PosShare TreeShare := Transfers.shareDrop fullShare (2 * 16)

/-- The table, whole, is a share for each task and a rest. -/
theorem tPts_pieces (d : Dev nD) (ft : Buf (Elt F) (tLoc d)) :
    (tLoc d ↦{fullShare} ft : sProp 𝕄) = iprop((tLoc d ↦{tRest} ft) ∗ bigSep Finset.univ fun p : Fin 2 × Fin 16 => tLoc d ↦{tq p} ft) := by
  have h : (tLoc d ↦{fullShare} ft : sProp 𝕄) ⊣⊢ _ := Transfers.pointsTo_toks fullShare (2 * 16)
  rw [BI.bigSep_univ_equiv finProdFinEquiv] at h
  exact BI.Entails.antisymm h.1 h.2

/-- What task `p` holds: its chunks, its share of the table, its row of the result. -/
def taskHeld (d : Dev nD) (fx : Buf (Elt F) (xLoc d)) (ft : Buf (Elt F) (tLoc d)) (fo : Buf (Elt F) (oLoc d)) (p : Fin 2 × Fin 16) : sProp 𝕄 :=
  iprop((bigSep Finset.univ (xChPts d (tk p) fx)) ∗ (tLoc d ↦{tq p} ft) ∗ oRowPts d (tk p) fo)

/-- What the tasks of SparseCore `c` hold together. -/
def coreHeld (d : Dev nD) (fx : Buf (Elt F) (xLoc d)) (ft : Buf (Elt F) (tLoc d)) (fo : Buf (Elt F) (oLoc d)) (c : Fin 2) : sProp 𝕄 :=
  bigSep Finset.univ fun i : Fin 16 => taskHeld d fx ft fo (c, i)

/-- The three arrays, whole, are what the two SparseCores hold and a rest of the table. -/
theorem pieces (d : Dev nD) (fx : Buf (Elt F) (xLoc d)) (ft : Buf (Elt F) (tLoc d)) (fo : Buf (Elt F) (oLoc d)) :
    (iprop((xLoc d ↦{fullShare} fx) ∗ (tLoc d ↦{fullShare} ft) ∗ (oLoc d ↦{fullShare} fo)) : sProp 𝕄)
      ⊣⊢ iprop((bigSep Finset.univ (coreHeld d fx ft fo)) ∗ (tLoc d ↦{tRest} ft)) := by
  unfold coreHeld
  rw [← bigSep_univ_prod (fun p : Fin 2 × Fin 16 => taskHeld (F := F) d fx ft fo p)]
  unfold taskHeld
  rw [bigSep_sep', bigSep_sep', ← xPts_pieces, ← oPts_pieces, tPts_pieces]
  constructor
  · iintro ⟨Hx, ⟨Hr, Ht⟩, Ho⟩
    isplitr [Hr]
    · isplitl [Hx]; · iexact Hx
      isplitl [Ht]; · iexact Ht
      iexact Ho
    iexact Hr
  · iintro ⟨⟨Hx, Ht, Ho⟩, Hr⟩
    isplitl [Hx]; · iexact Hx
    isplitr [Ho]
    · isplitl [Hr]; · iexact Hr
      iexact Ht
    iexact Ho

end Cert.Proof.Ideal
-- ==== Proof.Ideal.Launch.lean ====
/-
  The whole run: the flat array is the first argument read in row-major order, the two SparseCores' tasks leave their sums,
  and the TensorCore adds the 512 sums up and divides by the number of elements.
-/
module

public import proofs.«01_k».proof.Proof.Ideal.Pieces

@[expose] public section

noncomputable section

namespace Cert.Proof.Ideal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_congr wp_hlo_within)
open Idealize.ShloMosaic.Tactic

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-- The first argument, flat. -/
def flat (d : Dev nD) : Buf (Elt F) (xLoc d) := shapeCast S12582912 (m (aLoc d) : Vec F S16x3x512x512 .f32) shapeCasts_S16x3x512x512_S12582912

/-- The 512 sums the tasks leave. -/
def partials (d : Dev nD) : Buf (Elt F) (oLoc d) := result (m (tLoc d)) (flat m d)

/-! ## What the call takes and brings back -/

/-- Each task takes its pieces and brings them back, its row of the result at its sums. -/
def P : (K (F := F)).Pay (nD := nD) (Val := Elt F) (Name := ℕ) (U := UU) where
  st := fun q d c => match q with | 0 => coreHeld d (flat m d) (m (tLoc d)) (m (oLoc d)) (Fin.cast nCore_zero c)
  dn := fun q d c => match q with | 0 => coreHeld d (flat m d) (m (tLoc d)) (partials m d) (Fin.cast nCore_zero c)
  go := fun q d c i => match q with | 0 => taskHeld d (flat m d) (m (tLoc d)) (m (oLoc d)) (Fin.cast nCore_zero c, Fin.cast nSub_zero i)
  td := fun q d c i => match q with | 0 => taskHeld d (flat m d) (m (tLoc d)) (partials m d) (Fin.cast nCore_zero c, Fin.cast nSub_zero i)
  x := fun _ _ => iprop(emp)

instance task_storable (d : Dev nD) (fx : Buf (Elt F) (xLoc d)) (ft : Buf (Elt F) (tLoc d)) (fo : Buf (Elt F) (oLoc d)) (p : Fin 2 × Fin 16) :
    BI.Storable (upEmb : UEmb _ 𝕄) (taskHeld d fx ft fo p) := by
  unfold taskHeld; infer_instance
instance core_storable (d : Dev nD) (fx : Buf (Elt F) (xLoc d)) (ft : Buf (Elt F) (tLoc d)) (fo : Buf (Elt F) (oLoc d)) (c : Fin 2) :
    BI.Storable (upEmb : UEmb _ 𝕄) (coreHeld d fx ft fo c) := by
  unfold coreHeld; infer_instance

instance P_storable : (P (F := F) m).IsStorable where
  st q d c := match q with | 0 => core_storable d (flat m d) (m (tLoc d)) (m (oLoc d)) (Fin.cast nCore_zero c)
  dn q d c := match q with | 0 => core_storable d (flat m d) (m (tLoc d)) (partials m d) (Fin.cast nCore_zero c)
  go q d c i := match q with | 0 => task_storable d (flat m d) (m (tLoc d)) (m (oLoc d)) (Fin.cast nCore_zero c, Fin.cast nSub_zero i)
  td q d c i := match q with | 0 => task_storable d (flat m d) (m (tLoc d)) (partials m d) (Fin.cast nCore_zero c, Fin.cast nSub_zero i)

/-! ## The tasks' obligation -/

theorem defs₀_vector (c : Fin τ.nSC) (s : Fin τ.nSub) :
    defs₀ (F := F) (.scVector c s) 0 ()
      = SparseCore.onTile hcore0 hsub0 (fun c s => cc0__sc_loss_kernel (coordsV c s)
          (Memref.whole main_v0_scv) (Memref.isWhole_whole _) (Memref.whole main_arg2_scv) (Memref.isWhole_whole _)
          (Memref.whole main_v1_scv) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) cc0_scratch4 cc0_scratch5 cc0_scoped0 cc0_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (tq (Fin.cast nCore_zero c, Fin.cast nSub_zero i)) (flat m d) (m (tLoc d)) (m (oLoc d)) hF O W hO).trans
    (wp_mono frame _ _ fun _ => obl_post)

theorem tasks_core (d : Dev nD) (fx : Buf (Elt F) (xLoc d)) (ft : Buf (Elt F) (tLoc d)) (fo : Buf (Elt F) (oLoc d)) (c : Fin 2) :
    (bigSep Finset.univ fun i : Fin ((K (F := F)).nSub 0) => taskHeld d fx ft fo (c, Fin.cast nSub_zero i)) = coreHeld d fx ft fo c := rfl

theorem vecSplit : (K (F := F)).VecSplit' (P m) 0 := by
  intro d c
  show coreHeld d (flat m d) (m (tLoc d)) (m (oLoc d)) (Fin.cast nCore_zero c) ⊢ |={Set.univ}=> iprop(
      (bigSep Finset.univ fun i : Fin ((K (F := F)).nSub 0) => taskHeld d (flat m d) (m (tLoc d)) (m (oLoc d)) (Fin.cast nCore_zero c, Fin.cast nSub_zero i))
      ∗ ((bigSep Finset.univ fun i : Fin ((K (F := F)).nSub 0) => taskHeld d (flat m d) (m (tLoc d)) (partials m d) (Fin.cast nCore_zero c, Fin.cast nSub_zero i))
          -∗ coreHeld d (flat m d) (m (tLoc d)) (partials m d) (Fin.cast nCore_zero c)))
  rw [tasks_core, tasks_core]
  iintro H; imodintro
  isplitl [H]; · iexact H
  iintro H; iexact H

/-! ## The launch element -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev a' : DevRef τ sig := Proc.devRef .tc (main_arg0 : Ref sig .tc)
abbrev b' : DevRef τ sig := Proc.devRef .tc (main_arg1 : Ref sig .tc)
abbrev t' : DevRef τ sig := Proc.devRef .tc (main_arg2 : Ref sig .tc)
abbrev x' : DevRef τ sig := Proc.devRef .tc (main_v0 : Ref sig .tc)
abbrev o' : DevRef τ sig := Proc.devRef .tc (main_v1 : Ref sig .tc)
abbrev z' : DevRef τ sig := Proc.devRef .tc (main_cst : Ref sig .tc)
abbrev s' : DevRef τ sig := Proc.devRef .tc (main_v2 : Ref sig .tc)
abbrev n' : DevRef τ sig := Proc.devRef .tc (main_cst_0 : Ref sig .tc)
abbrev r' : DevRef τ sig := Proc.devRef .tc (main_v3 : Ref sig .tc)
abbrev rLoc (d : Dev nD) : Loc nD τ sig := (SparseCore.T d).loc main_v3

/-- The TensorCore's arrays; those the call leaves alone; those the claims do not speak of. -/
abbrev S9 : Finset (DevRef τ sig) := {x', t', o', a', b', z', s', n', r'}
abbrev S6 : Finset (DevRef τ sig) := {a', b', z', s', n', r'}
abbrev S5 : Finset (DevRef τ sig) := {x', o', z', s', n'}

abbrev opFlat : HloOp τ sig (Elt F) := StableHlo.reshape main_arg0 main_v0 (rfl : (.f32 : EltTy) = .f32) shapeCasts_S16x3x512x512_S12582912
abbrev opZero : HloOp τ sig (Elt F) := StableHlo.nullary main_cst (constant S_ .f32 0x00000000#32)
abbrev opAdd : HloOp τ sig (Elt F) := StableHlo.binary main_v1 main_cst main_v2
  ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F))
abbrev opCount : HloOp τ sig (Elt F) := StableHlo.nullary main_cst_0 (constant S_ .f32 0x4B400000#32)
abbrev opDiv : HloOp τ sig (Elt F) := StableHlo.binary main_v2 main_cst_0 main_v3
  (Host.divf : (⟨S_, .f32⟩ : BufTy).Contents (Elt F) → (⟨S_, .f32⟩ : BufTy).Contents (Elt F) → (⟨S_, .f32⟩ : BufTy).Contents (Elt F))

theorem held_call (d : Dev nD) (W : Valuation τ sig (Elt F)) :
    (held (T d) S9 W : sProp 𝕄)
      = iprop((xLoc d ↦{fullShare} W x') ∗ (tLoc d ↦{fullShare} W t') ∗ (oLoc d ↦{fullShare} W o') ∗ held (T d) S6 W) := by
  unfold held
  rw [show S9 = insert x' (insert t' (insert o' S6)) from rfl, SparseCore.bigSep_insert' (by decide), SparseCore.bigSep_insert' (by decide),
    SparseCore.bigSep_insert' (by decide)]

theorem held_end (d : Dev nD) (W : Valuation τ sig (Elt F)) :
    (held (T d) S9 W : sProp 𝕄)
      = iprop((aLoc d ↦{fullShare} W a') ∗ (bLoc d ↦{fullShare} W b') ∗ (tLoc d ↦{fullShare} W t') ∗ (rLoc d ↦{fullShare} W r') ∗ held (T d) S5 W) := by
  unfold held
  rw [show S9 = insert a' (insert b' (insert t' (insert r' S5))) by decide, SparseCore.bigSep_insert' (by decide), SparseCore.bigSep_insert' (by decide),
    SparseCore.bigSep_insert' (by decide), SparseCore.bigSep_insert' (by decide)]

/-- The launch valuation; after the first operation; after the call; at the end. -/
def V0 (d : Dev nD) : Valuation τ sig (Elt F) := fun b => m (d, b)
def V1 (d : Dev nD) : Valuation τ sig (Elt F) := (opFlat (F := F)).result (V0 m d)
def V2 (d : Dev nD) : Valuation τ sig (Elt F) := Function.update (V1 m d) o' (partials m d)
def V6 (d : Dev nD) : Valuation τ sig (Elt F) := (opDiv (F := F)).result (opCount.result (opAdd.result (opZero.result (V2 m d))))

theorem unscoped_held (d : Dev nD) : (unscopedBufs d (fun b => m ((SparseCore.T d).loc b)) : sProp 𝕄) = held (T d) S9 (V0 m d) := by
  unfold unscopedBufs held
  rw [show (Finset.univ.filter fun b : Ref sig .tc => ¬ b.isScoped)
      = {main_v0, main_arg2, main_v1, main_arg0, main_arg1, main_cst, main_v2, main_cst_0, main_v3} by decide]
  iterate 8 rw [SparseCore.bigSep_insert' (by decide)]
  rw [bigSep_singleton]
  iterate 8 rw [SparseCore.bigSep_insert' (by decide)]
  rw [bigSep_singleton]
  rfl

theorem V1_x (d : Dev nD) : V1 m d x' = flat m d := (StableHlo.reshape_result main_arg0 main_v0 rfl shapeCasts_S16x3x512x512_S12582912 _ _ (V0 m d)).trans rfl
theorem V1_ne (d : Dev nD) (b : Ref sig .tc) (h : b ≠ main_v0) : V1 m d (Proc.devRef .tc b) = m ((SparseCore.T d).loc b) :=
  (StableHlo.reshape_result_ne (x := main_arg0) (y := main_v0) rfl shapeCasts_S16x3x512x512_S12582912 _ _ (V0 m d) h).trans rfl

theorem V2_o (d : Dev nD) : V2 m d o' = partials m d := Function.update_self _ _ _
theorem V2_ne (d : Dev nD) {b : DevRef τ sig} (h : b ≠ o') : V2 m d b = V1 m d b := Function.update_of_ne h _ _

/-- What the run leaves in the result: the sums added up, over the number of elements. -/
def out (d : Dev nD) : Buf (Elt F) (rLoc d) :=
  Host.divf (Host.reduceAdd (partials m d : Vec F S512 .f32) (constant S_ .f32 0x00000000#32) reducesTo_S512_S_d0 h_S_) (constant S_ .f32 0x4B400000#32)

theorem V6_r (d : Dev nD) : V6 m d r' = out m d := by
  unfold V6 out
  rw [← V2_o]
  after_results_simp
theorem V6_ne (d : Dev nD) (b : Ref sig .tc) (h0 : b ≠ main_v0) (h1 : b ≠ main_v1) (h2 : b ≠ main_cst) (h3 : b ≠ main_v2) (h4 : b ≠ main_cst_0) (h5 : b ≠ main_v3) :
    V6 m d (Proc.devRef .tc b) = m ((SparseCore.T d).loc b) := by
  unfold V6
  rw [StableHlo.binary_result_ne (h := h5), StableHlo.nullary_result_ne (h := h4), StableHlo.binary_result_ne (h := h3),
    StableHlo.nullary_result_ne (h := h2), V2_ne m d (StableHlo.devRef_ne_of_ne h1), V1_ne m d b h0]

/-- What the call takes for the two SparseCores, and what it hands back. -/
theorem st0_eq (d : Dev nD) : (bigSep Finset.univ fun c : Fin ((K (F := F)).nCore 0) => (P m).st 0 d c)
    = bigSep Finset.univ (coreHeld d (flat m d) (m (tLoc d)) (m (oLoc d))) := rfl
theorem dn0_eq (d : Dev nD) : (bigSep Finset.univ fun c : Fin ((K (F := F)).nCore 0) => (P m).dn 0 d c)
    = bigSep Finset.univ (coreHeld d (flat m d) (m (tLoc d)) (partials m d)) := rfl

/-- What @main leaves the claims: the arguments at their launch contents, the result. -/
abbrev FIN (d : Dev nD) : sProp 𝕄 :=
  iprop((aLoc d ↦{fullShare} m (aLoc d)) ∗ (bLoc d ↦{fullShare} m (bLoc d)) ∗ (tLoc d ↦{fullShare} m (tLoc d)) ∗ (rLoc d ↦{fullShare} out m d))

/-- @main: the flat array, the call, the sums added up and divided. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  -- the flat array
  iapply (wp_hlo_within 𝒱 (SparseCore.T d) none Set.univ (op := opFlat) (S := S9) (show ({a', x'} : Finset (DevRef τ sig)) ⊆ S9 by decide) (V := V0 m d)) $$ [Hb Hheld]
  · isplitl [Hb]; · iexact Hb
    iexact Hheld
  iintro ⟨Hb, Hheld⟩
  rw [wp_ret]; imodintro
  -- the call
  ihave Hh := (Entails.of_eq (show held (T d) S9 (opFlat.result (V0 m d)) = _ from held_call (F := F) d (V1 m d))) $$ Hheld
  rw [V1_x, V1_ne m d main_arg2 (by decide), V1_ne m d main_v1 (by decide)]
  icases Hh with ⟨Hx, Ht, Ho, Hrest⟩
  ihave Hp := ((pieces (F := F) d (flat m d) (m (tLoc d)) (m (oLoc d))).1) $$ [Hx Ht Ho]
  · isplitl [Hx]; · iexact Hx
    isplitl [Ht]; · iexact Ht
    iexact Ho
  icases Hp with ⟨Hp, Htr⟩
  iapply ((K (F := F)).wp_run (D (F := F)) 𝒱 (EH := EH) (P := P m) κ d 0) $$ [Hst Hp Htr Hrest Hb Hts]
  isplitr; · iexact Hctx
  isplitl [Hst]; · iexact Hst
  isplitl [Hp]
  · rw [st0_eq]; iexact Hp
  iintro ⟨Hst, Hdn⟩
  ihave Hp := (Entails.of_eq (dn0_eq m d)) $$ Hdn
  ihave Hh := ((pieces (F := F) d (flat m d) (m (tLoc d)) (partials m d)).2) $$ [Hp Htr]
  · isplitl [Hp]; · iexact Hp
    iexact Htr
  icases Hh with ⟨Hx, Ht, Ho⟩
  ihave Hheld := (Entails.of_eq (held_call (F := F) d (V2 m d)).symm) $$ [Hx Ht Ho Hrest]
  · rw [V2_ne m d (show x' ≠ o' by decide), V2_ne m d (show t' ≠ o' by decide), V2_o, V1_x, V1_ne m d main_arg2 (by decide),
      held_congr (T d) (V := V2 m d) (V' := V1 m d) (S := S6) (fun b hb => V2_ne m d (by rintro rfl; revert hb; decide))]
    isplitl [Hx]; · iexact Hx
    isplitl [Ht]; · iexact Ht
    isplitl [Ho]; · iexact Ho
    iexact Hrest
  -- the sums added up, and divided
  iapply (wp_hlo_within 𝒱 (SparseCore.T d) none Set.univ (op := opZero) (S := S9) (show ({z'} : Finset (DevRef τ sig)) ⊆ S9 by decide) (V := V2 m d)) $$ [Hb Hheld]
  · isplitl [Hb]; · iexact Hb
    iexact Hheld
  iintro ⟨Hb, Hheld⟩
  rw [wp_ret]; imodintro
  iapply (wp_hlo_within 𝒱 (SparseCore.T d) none Set.univ (op := opAdd) (S := S9) (show ({o', z', s'} : Finset (DevRef τ sig)) ⊆ S9 by decide)) $$ [Hb Hheld]
  · isplitl [Hb]; · iexact Hb
    iexact Hheld
  iintro ⟨Hb, Hheld⟩
  rw [wp_ret]; imodintro
  iapply (wp_hlo_within 𝒱 (SparseCore.T d) none Set.univ (op := opCount) (S := S9) (show ({n'} : Finset (DevRef τ sig)) ⊆ S9 by decide)) $$ [Hb Hheld]
  · isplitl [Hb]; · iexact Hb
    iexact Hheld
  iintro ⟨Hb, Hheld⟩
  rw [wp_ret]; imodintro
  iapply (wp_hlo_within 𝒱 (SparseCore.T d) none Set.univ (op := opDiv) (S := S9) (show ({s', n', r'} : Finset (DevRef τ sig)) ⊆ S9 by decide)) $$ [Hb Hheld]
  · isplitl [Hb]; · iexact Hb
    iexact Hheld
  iintro ⟨Hb, Hheld⟩
  rw [wp_ret]; imodintro; imodintro
  ihave Hh := (Entails.of_eq (show held (T d) S9 (opDiv.result (opCount.result (opAdd.result (opZero.result (V2 m d))))) = _ from held_end (F := F) d (V6 m d))) $$ Hheld
  rw [V6_r, V6_ne m d main_arg0 (by decide) (by decide) (by decide) (by decide) (by decide) (by decide),
    V6_ne m d main_arg1 (by decide) (by decide) (by decide) (by decide) (by decide) (by decide),
    V6_ne m d main_arg2 (by decide) (by decide) (by decide) (by decide) (by decide) (by decide)]
  icases Hh with ⟨Ha, Hbb, Ht, Hr, -⟩
  isplitl [Hst]; · iexact Hst
  isplitr [Hb Hts]
  · isplitl [Ha]; · iexact Ha
    isplitl [Hbb]; · iexact Hbb
    isplitl [Ht]; · iexact Ht
    iexact Hr
  isplitl [Hb] <;> iassumption

def fq (d : Dev nD) (s : Phys nD τ sig (Elt F)) : Prop :=
  s.mem.mem (aLoc d) = m (aLoc d) ∧ s.mem.mem (bLoc d) = m (bLoc d) ∧ s.mem.mem (tLoc d) = m (tLoc d) ∧ s.mem.mem (rLoc d) = out m d

set_option maxRecDepth 16384 in
theorem hfin (d : Dev nD) (s : Phys nD τ sig (Elt F)) : iprop(FIN m d ∗ SI s) ⊢ (⌜fq m d s⌝ : sProp 𝕄) := by
  iintro ⟨⟨Ha, Hb, Ht, Hr⟩, HSI⟩
  ihave H := (persistent_entails_right (SI_pointsTo_agree (st := s) (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s) (ℓ := bLoc d) (I := Finset.univ) (q := fullShare) (f := m (bLoc d)))) $$ [HSI Hb]
  · isplitl [HSI] <;> iassumption
  icases H with ⟨%h2, HSI, -⟩
  ihave H := (persistent_entails_right (SI_pointsTo_agree (st := s) (ℓ := tLoc d) (I := Finset.univ) (q := fullShare) (f := m (tLoc d)))) $$ [HSI Ht]
  · isplitl [HSI] <;> iassumption
  icases H with ⟨%h3, HSI, -⟩
  ihave H := (SI_pointsTo_agree (st := s) (ℓ := rLoc d) (I := Finset.univ) (q := fullShare) (f := out m d)) $$ [HSI Hr]
  · isplitl [HSI] <;> iassumption
  icases H with %h4
  ipureintro
  exact ⟨funext fun i => h1 i (Finset.mem_univ i), funext fun i => h2 i (Finset.mem_univ i), funext fun i => h3 i (Finset.mem_univ i),
    funext fun i => h4 i (Finset.mem_univ i)⟩

/-! ## The program's run -/

def QC : PUnit × MemSt nD τ sig (Elt F) → Prop := fun r =>
  (∀ c : Dev nD, r.2.mem (aLoc c) = m (aLoc c) ∧ r.2.mem (bLoc c) = m (bLoc c) ∧ r.2.mem (tLoc c) = m (tLoc c) ∧ r.2.mem (rLoc c) = out m c) ∧ r.2.sem = fun _ => 0

/-- Every run of the program ends, with the arguments unchanged, the result `out` and every semaphore back at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Ideal
-- ==== Proof.Ideal.Term.lean ====
/-
  One word's contribution, over the extended reals, and what the kernel's trips, sweeps and chunks add up to: sums of
  contributions.
-/
module

public import proofs.«01_k».proof.Proof.Ideal.Launch
public import Idealize.ShloMosaic.PureOps.Ideal.Laws

@[expose] public section

noncomputable section

namespace Cert.Proof.Ideal

open Cert.KernelIdeal Cert.KernelIdeal.Gen
open Idealize.ShloMosaic

/-! ## One word -/

/-- The word of a pixel's table position: 255 times the pixel as an integer, clamped between 0 and 255. -/
def entryWord (x : EReal) : BitVec 32 := IntOp.minsi (IntOp.maxsi (Ideal.fptosi 32 (x * ((255 : ℝ) : EReal))) 0#32) 255#32

/-- A table position as an index. -/
def entry (x : EReal) : S256.Idx := fun a => ⟨(entryWord x).toNat, by obtain rfl : a = 0 := Subsingleton.elim _ _; exact clamp_lt _⟩

/-- The squared distance of a pixel to its table entry. -/
def gap (tab : S256.Idx → EReal) (x : EReal) : EReal := (x - tab (entry x)) * (x - tab (entry x))

/-- The smoothed distance of `r` to zero: quadratic below 1/5, linear from there on. -/
def smooth (r : EReal) : EReal :=
  if r < ((1/5 : ℝ) : EReal) then ((5/2 : ℝ) : EReal) * r * r else r - ((1/10 : ℝ) : EReal)

/-- One pixel's contribution to the loss. -/
def term (tab : S256.Idx → EReal) (x : EReal) : EReal :=
  gap tab x + max x 0 + ((1000 : ℝ) : EReal) * smooth (max (-x) 0)

/-! ## The literals -/

theorem word_255 : Ideal.ofBits .f32 0x437F0000#32 = ((255 : ℝ) : EReal) := by
  simp [Ideal.ofBits, Ideal.ieee]; rw [← EReal.coe_mul]; norm_num
theorem word_five_halves : Ideal.ofBits .f32 0x40200000#32 = ((5/2 : ℝ) : EReal) := by
  simp [Ideal.ofBits, Ideal.ieee]; rw [← EReal.coe_mul]; norm_num
theorem word_1000 : Ideal.ofBits .f32 0x447A0000#32 = ((1000 : ℝ) : EReal) := by
  simp [Ideal.ofBits, Ideal.ieee]; rw [← EReal.coe_mul]; norm_num
theorem word_count : Ideal.ofBits .f32 0x4B400000#32 = ((12582912 : ℝ) : EReal) := by
  simp [Ideal.ofBits, Ideal.ieee]
theorem beta_value : Named.named (F := Ideal) κ "beta" (φ := .f32) 0x3E4CCCCD#32 = ((1/5 : ℝ) : EReal) :=
  IdealRules.named_const.ideal_named_scalar _ _ _ _ rfl
theorem half_beta_value : Named.named (F := Ideal) κ "half_beta" (φ := .f32) 0x3DCCCCCD#32 = ((1/10 : ℝ) : EReal) :=
  IdealRules.named_const.ideal_named_scalar _ _ _ _ rfl

/-! ## Trips, sweeps, chunks -/

variable (tab : Vec Ideal S256 .f32)

/-- A lane's table position is its word's. -/
theorem pos_apply (v : FVec Ideal S16 .f32) (j : S16.Idx) : k0_pay4 (F := Ideal) v j = entryWord (v j) := by
  unfold k0_pay4 entryWord
  rw [← word_255]
  rfl

/-- The entry a trip looks up for a lane is that of the lane's word. -/
theorem look_apply (v : FVec Ideal S16 .f32) (j : S16.Idx) :
    loadIdx tab ![k0_pay4 (F := Ideal) v] (k0_idx1_inb _ (chk v)) j = tab (entry (v j)) := by
  unfold loadIdx
  congr 1
  funext a
  obtain rfl : a = 0 := Subsingleton.elim _ _
  apply Fin.ext
  show (k0_pay4 (F := Ideal) v j).toNat = _
  rw [pos_apply]
  rfl

/-- A payload's lane, for any looked-up words `t`. -/
theorem pay_apply (acc v t : FVec Ideal S16 .f32) (j : S16.Idx) :
    k0_pay5 acc v t j = (acc j : EReal) + ((v j - t j) * (v j - t j) + max (v j : EReal) 0
      + ((1000 : ℝ) : EReal) * smooth (max (-(v j : EReal)) 0)) := by
  simp only [k0_pay5, addf, mulf, subf, maximumf, select, cmpf, broadcast, Ideal.addf_def, Ideal.mulf_def, Ideal.subf_def, Ideal.maximumf_def]
  rw [beta_value, half_beta_value]
  rw [Ideal.ofBits_def, Ideal.ofBits_def, Ideal.ofBits_def, Ideal.ofBits_zero_f32, word_1000, word_five_halves,
    sub_eq_add_neg (0 : EReal), zero_add, Ideal.cmpf_def]
  unfold smooth Ideal.cmp
  by_cases h : max (-(v j : EReal)) 0 < ((1/5 : ℝ) : EReal)
  · rw [if_pos h]; simp only [h, decide_true]; rfl
  · rw [if_neg h]; simp only [h, decide_false]; rfl

/-- A trip adds each lane's contribution to its sum. -/
theorem trip_apply (acc v : FVec Ideal S16 .f32) (j : S16.Idx) :
    trip tab acc v j = (acc j : EReal) + term tab (v j) := by
  unfold trip
  rw [pay_apply, look_apply]
  rfl

/-- A sweep's first `n` trips add the contributions of the lane's words. -/
theorem sweep_apply (b : Vec Ideal S49152 .f32) (acc : FVec Ideal S16 .f32) (n : ℕ) (j : S16.Idx) :
    sweep tab b acc n j = (acc j : EReal) + ∑ k ∈ Finset.range n, term tab (lanes b k j) := by
  induction n with
  | zero => rw [Finset.range_zero, Finset.sum_empty, add_zero]; rfl
  | succ n ih => rw [sweep, trip_apply, ih, Finset.sum_range_succ, add_assoc]

/-- Word `p` of the flat array, `p` taken around its end. -/
def word (x : Vec Ideal S12582912 .f32) (p : ℕ) : EReal :=
  x fun a => ⟨p % 12582912, by obtain rfl : a = 0 := Subsingleton.elim _ _; exact Nat.mod_lt _ (by decide)⟩

/-- Lane `j` of a chunk's trip `k` is a word of the flat array. -/
theorem lanes_chunk (x : Vec Ideal S12582912 .f32) (w r : ℕ) {k : ℕ} (hk : k < 3072) (j : S16.Idx) :
    lanes (chunk x w r) k j = word x (393216 * w + 49152 * r + (16 * k + (j 0).val)) := by
  have hj : (j 0).val < 16 := (j 0).isLt
  unfold lanes chunk word
  congr 1
  funext a
  apply Fin.ext
  show (393216 * w + 49152 * r + (16 * k + (j 0).val) % 49152) % 12582912 = _
  rw [Nat.mod_eq_of_lt (show 16 * k + (j 0).val < 49152 by omega)]

/-- A task's sixteen sums after its first `n` chunks are sums of contributions. -/
theorem sums_apply (x : Vec Ideal S12582912 .f32) (w n : ℕ) (j : S16.Idx) :
    (sums tab x w n j : EReal) = ∑ r ∈ Finset.range n, ∑ k ∈ Finset.range 3072,
      term tab (word x (393216 * w + 49152 * r + (16 * k + (j 0).val))) := by
  induction n with
  | zero =>
    rw [Finset.range_zero, Finset.sum_empty]
    exact Ideal.ofBits_zero_f32
  | succ n ih =>
    rw [sums, sweep_apply, ih, Finset.sum_range_succ _ n]
    congr 1
    exact Finset.sum_congr rfl fun k hk => by rw [lanes_chunk x w n (Finset.mem_range.1 hk)]

end Cert.Proof.Ideal

end
-- ==== Proof.Ideal.Total.lean ====
/-
  What the kernel returns, over the extended reals: the sum of every pixel's contribution, over the number of pixels.
  The 512 partial sums cover the flat array's words once each: word 393216 w + 49152 r + 16 k + l is lane l of trip k
  over chunk r of task w.
-/
module

public import proofs.«01_k».proof.Proof.Ideal.Term
public import Idealize.ShloMosaic.Lib.ValueIdxRank1

@[expose] public section

noncomputable section

namespace Cert.Proof.Ideal

open Cert.KernelIdeal Cert.KernelIdeal.Gen
open Idealize.ShloMosaic

/-- A sum over `a * b` numbers, `b` at a time. -/
theorem sum_blocks (f : ℕ → EReal) (a b : ℕ) :
    ∑ p ∈ Finset.range (a * b), f p = ∑ i ∈ Finset.range a, ∑ j ∈ Finset.range b, f (b * i + j) := by
  induction a with
  | zero => simp
  | succ a ih => rw [Nat.succ_mul, Finset.sum_range_add, ih, Finset.sum_range_succ, mul_comm a b]

/-- A sum over the indices of a one-axis shape is one over its extent. -/
theorem sum_idx {n : ℕ} (f : ℕ → EReal) : ∑ i : (⟨1, ![n]⟩ : Shape).Idx, f (i 0).val = ∑ p ∈ Finset.range n, f p := by
  rw [Finset.sum_range]
  exact Fintype.sum_equiv ValueIdx.idxEquiv1 _ _ fun _ => rfl

/-- The host's sum over every axis, over the number of pixels, at any shape. -/
theorem mean_apply {s : Shape} {axes : List (Fin s.rank)} (v : FVec Ideal s .f32) (h : s.ReducesTo axes S_) (hu : 0 < S_.numel) (j : S_.Idx) :
    (Host.divf (Host.reduceAdd v (constant S_ .f32 0x00000000#32) h hu) (constant S_ .f32 0x4B400000#32) : FVec Ideal S_ .f32) j
      = (∑ i : s.Idx, (v i : EReal)) * ((1 / 12582912 : ℝ) : EReal) := by
  rw [← Ideal.div_coe (by norm_num), ← word_count, ← zero_add (∑ i : s.Idx, (v i : EReal)), ← Ideal.ofBits_zero_f32,
    ← Ideal.hostReduceAdd_total h (fun b => b.elim0) v _ j]
  rfl

variable (tab : Vec Ideal S256 .f32) (x : Vec Ideal S12582912 .f32)

/-- The partial sums add up to the sum of all words' contributions. -/
theorem sum_result : ∑ n : S512.Idx, (result tab x n : EReal) = ∑ i : S12582912.Idx, term tab (x i) := by
  have hl (n : S512.Idx) : (result tab x n : EReal) = ∑ r ∈ Finset.range 8, ∑ k ∈ Finset.range 3072,
      term tab (word x (393216 * ((n 0).val / 16) + 49152 * r + (16 * k + (n 0).val % 16))) := sums_apply tab x _ 8 _
  have hr (i : S12582912.Idx) : term tab (x i) = term tab (word x (i 0).val) := by
    unfold word
    congr 2
    funext a
    obtain rfl : a = 0 := Subsingleton.elim _ _
    exact Fin.ext (Nat.mod_eq_of_lt (i 0).isLt).symm
  rw [Finset.sum_congr rfl fun n _ => hl n, Finset.sum_congr rfl fun i _ => hr i]
  refine (sum_idx (n := 512) fun p => ∑ r ∈ Finset.range 8, ∑ k ∈ Finset.range 3072,
    term tab (word x (393216 * (p / 16) + 49152 * r + (16 * k + p % 16)))).trans ?_
  refine Eq.trans ?_ (sum_idx (n := 12582912) fun p => term tab (word x p)).symm
  rw [show 12582912 = 32 * (8 * (3072 * 16)) from rfl, sum_blocks, show 512 = 32 * 16 from rfl, sum_blocks]
  refine Finset.sum_congr rfl fun w _ => ?_
  rw [sum_blocks, Finset.sum_comm]
  refine Finset.sum_congr rfl fun r _ => ?_
  rw [sum_blocks, Finset.sum_comm]
  refine Finset.sum_congr rfl fun k _ => Finset.sum_congr rfl fun l hl => ?_
  have := Finset.mem_range.1 hl
  congr 2
  omega

/-- The mean of the partial sums is that of the contributions. -/
theorem mean_result (j : S_.Idx) :
    (Host.divf (Host.reduceAdd (result tab x) (constant S_ .f32 0x00000000#32) reducesTo_S512_S_d0 h_S_) (constant S_ .f32 0x4B400000#32) : FVec Ideal S_ .f32) j
      = (∑ i : S12582912.Idx, term tab (x i)) * ((1 / 12582912 : ℝ) : EReal) := by
  rw [mean_apply, sum_result]

/-- Summing over a reshaped array is summing over the array. -/
theorem sum_flat (a : Vec Ideal S16x3x512x512 .f32) (h : S16x3x512x512.ShapeCasts S12582912) (f : EReal → EReal) :
    ∑ i : S12582912.Idx, f (shapeCast S12582912 a h i) = ∑ i : S16x3x512x512.Idx, f (a i) :=
  Fintype.sum_equiv (Shape.reshapeEquiv h) _ _ fun _ => rfl

variable (m : (ℓ : Loc nD τ sig) → Buf (Elt Ideal) ℓ)

/-- The kernel returns the sum of the contributions, over the number of pixels. -/
theorem out_eq (d : Dev nD) (j : S_.Idx) : (out m d : Vec Ideal S_ .f32) j =
    (∑ i : S16x3x512x512.Idx, term (m (tLoc d)) ((m (aLoc d) : Vec Ideal S16x3x512x512 .f32) i)) * ((1 / 12582912 : ℝ) : EReal) := by
  rw [← sum_flat _ shapeCasts_S16x3x512x512_S12582912]
  exact mean_result (m (tLoc d)) (flat m d) j

end Cert.Proof.Ideal

end
-- ==== Proof.Ideal.Ref.lean ====
/-
  What the reference computes, over the extended reals, pixel by pixel: its three means are the means of the three parts of a
  pixel's contribution.
-/
module

public import proofs.«01_k».proof.Proof.Ideal.Total
public import proofs.«01_k».proof.Proof.Gen.ReferenceIdeal.Run
public import Idealize.ShloMosaic.Lib.ReduceAll

@[expose] public section

noncomputable section

namespace Cert.Proof.Ideal.Ref

open Cert.ReferenceIdeal Cert.ReferenceIdeal.Gen
open Idealize.ShloMosaic

/-- An array of images. -/
abbrev Img : Type := FVec Ideal S16x3x512x512 .f32

/-! ## The reference's steps -/

/-- The array of one word. -/
def splat (w : BitVec 32) : Img := broadcastInDim S16x3x512x512 ![] bcast_S_S16x3x512x512 (constant S_ .f32 w)
/-- The array of one integer. -/
def splatI (w : BitVec 32) : IVec S16x3x512x512 32 := broadcastInDim S16x3x512x512 ![] bcast_S_S16x3x512x512 (constantI S_ 32 w)
/-- The scalar 1/5, as the quotient of 1 and 5. -/
def fifth : FVec Ideal S_ .f32 := Host.divf (constant S_ .f32 0x3F800000#32) (constant S_ .f32 0x40A00000#32)
/-- The distance to zero of a relu. -/
def dist (y : Img) : Img := Host.absf (subf (maximumf y (splat 0x00000000#32)) (splat 0x00000000#32))
/-- The smoothed distance. -/
def smoothed (a : Img) : Img :=
  select (cmpf .olt a (broadcastInDim S16x3x512x512 ![] bcast_S_S16x3x512x512 fifth))
    (Host.divf (mulf (mulf (splat 0x3F000000#32) a) a) (broadcastInDim S16x3x512x512 ![] bcast_S_S16x3x512x512 fifth))
    (subf a (broadcastInDim S16x3x512x512 ![] bcast_S_S16x3x512x512 (mulf (constant S_ .f32 0x3F000000#32) fifth)))
/-- The table positions. -/
def clip (x : Img) : IVec S16x3x512x512 32 :=
  minsi (splatI 255#32) (maxsi (splatI 0#32) (fptosi 32 (mulf x (splat 0x437F0000#32))))
/-- The positions as a column, those below zero counted from the table's end. -/
def column (i : IVec S16x3x512x512 32) : IVec S16x3x512x512x1 32 :=
  broadcastInDim S16x3x512x512x1 ![0, 1, 2, 3] bcast_S16x3x512x512_S16x3x512x512x1_0_1_2_3
    (select (cmpi .slt i (splatI 0#32)) (addi i (splatI 256#32)) i)
/-- Which positions are in the table. -/
def inside (k : IVec S16x3x512x512x1 32) : IVec S16x3x512x512 1 :=
  Host.reduce IntOp.andi
    (andi (cmpi .sge k (broadcastInDim S16x3x512x512x1 ![] bcast_S_S16x3x512x512x1 (constantI S_ 32 0#32)))
      (cmpi .sle k (broadcastInDim S16x3x512x512x1 ![0, 1, 2, 3, 4] bcast_S1x1x1x1x1_S16x3x512x512x1_0_1_2_3_4
        (broadcastInDim S1x1x1x1x1 ![4] bcast_S1_S1x1x1x1x1_4 (constantI S1 32 255#32)))))
    (constantI S_ 1 1#1) reducesTo_S16x3x512x512x1_S16x3x512x512_d4 h_S_
/-- The looked-up entries. -/
def taken (t : FVec Ideal S256 .f32) (k : IVec S16x3x512x512x1 32) : Img :=
  select (inside k) (Host.gather gather_S256_S16x3x512x512x1_S16x3x512x512_n_0_n_n_0_4_1 t k) (splat 0x7FC00000#32)
/-- The mean over every pixel. -/
def mean (y : Img) : FVec Ideal S_ .f32 :=
  Host.divf (Host.reduceAdd y (constant S_ .f32 0x00000000#32) reducesTo_S16x3x512x512_S_d0_1_2_3 h_S_) (constant S_ .f32 0x4B400000#32)
/-- The loss. -/
def loss (x : Img) (t : FVec Ideal S256 .f32) : FVec Ideal S_ .f32 :=
  addf (addf (mulf (constant S_ .f32 0x447A0000#32) (mean (smoothed (dist (Host.negf x))))) (mean (dist x)))
    (mean (mulf (subf x (taken t (column (clip x)))) (subf x (taken t (column (clip x))))))

/-- The reference's result is these steps. -/
theorem res_eq (m : (ℓ : Loc nD τ sig) → Buf (Elt Ideal) ℓ) (c : Dev nD) :
    Value.res_out0 m c = loss (m ((c.tc : Thread nD τ).loc main_arg0)) (m ((c.tc : Thread nD τ).loc main_arg2)) := by
  unfold Value.res_out0 Value.res_main_v36
  rfl

/-! ## Pixel by pixel -/

theorem splat_apply (w : BitVec 32) (i : S16x3x512x512.Idx) : splat w i = Ideal.ofBits .f32 w := rfl

theorem fifth_apply (j : S_.Idx) : (fifth j : EReal) = ((1/5 : ℝ) : EReal) := by
  show Ideal.div (Ideal.ofBits .f32 0x3F800000#32) (Ideal.ofBits .f32 0x40A00000#32) = _
  have h1 : Ideal.ofBits .f32 0x3F800000#32 = ((1 : ℝ) : EReal) := by
    simp [Ideal.ofBits, Ideal.ieee]; rw [← EReal.coe_mul]; norm_num
  have h5 : Ideal.ofBits .f32 0x40A00000#32 = ((5 : ℝ) : EReal) := by
    simp [Ideal.ofBits, Ideal.ieee]; rw [← EReal.coe_mul]; norm_num
  rw [h1, h5, Ideal.div_coe (by norm_num), ← EReal.coe_mul]
  norm_num

theorem dist_apply (y : Img) (i : S16x3x512x512.Idx) : (dist y i : EReal) = max (y i : EReal) 0 := by
  show max (max (y i : EReal) (Ideal.ofBits .f32 0x00000000#32) - Ideal.ofBits .f32 0x00000000#32)
    (-(max (y i : EReal) (Ideal.ofBits .f32 0x00000000#32) - Ideal.ofBits .f32 0x00000000#32)) = _
  rw [Ideal.ofBits_zero_f32, sub_zero]
  have h : (0 : EReal) ≤ max (y i : EReal) 0 := le_max_right _ _
  exact max_eq_left (le_trans (EReal.neg_le_zero.2 h) h)

/-- On a distance, the reference's smoothing is `smooth`. -/
theorem smoothed_apply (a : Img) (i : S16x3x512x512.Idx) (h : (0 : EReal) ≤ a i) : (smoothed a i : EReal) = smooth (a i) := by
  have hhalf : Ideal.ofBits .f32 0x3F000000#32 = ((1/2 : ℝ) : EReal) := by
    simp [Ideal.ofBits, Ideal.ieee]; rw [← EReal.coe_mul]; norm_num
  show Scalar.select (Ideal.cmp .olt (a i) (fifth _)) (Ideal.div (Ideal.ofBits .f32 0x3F000000#32 * a i * a i) (fifth _))
    ((a i : EReal) - Ideal.ofBits .f32 0x3F000000#32 * fifth _) = _
  rw [fifth_apply, hhalf, ← EReal.coe_mul]
  generalize (a i : EReal) = r at h
  unfold smooth
  by_cases hr : r < ((1/5 : ℝ) : EReal)
  · rw [if_pos hr]
    simp only [Ideal.cmp, hr, decide_true]
    show Ideal.div _ _ = _
    lift r to ℝ using ⟨ne_top_of_lt hr, (lt_of_lt_of_le EReal.bot_lt_zero h).ne'⟩
    rw [Ideal.div_coe (by norm_num)]
    simp only [← EReal.coe_mul]
    exact congrArg ((↑) : ℝ → EReal) (by ring)
  · rw [if_neg hr]
    simp only [Ideal.cmp, hr, decide_false]
    show r - _ = _
    norm_num

/-! ## The lookup -/

theorem maxsi_comm (a b : BitVec 32) : IntOp.maxsi a b = IntOp.maxsi b a := by
  unfold IntOp.maxsi
  simp only [BitVec.slt, decide_eq_true_eq]
  split_ifs with h1 h2 h2 <;> first | rfl | omega | exact BitVec.eq_of_toInt_eq (by omega)

theorem minsi_comm (a b : BitVec 32) : IntOp.minsi a b = IntOp.minsi b a := by
  unfold IntOp.minsi
  simp only [BitVec.slt, decide_eq_true_eq]
  split_ifs with h1 h2 h2 <;> first | rfl | omega | exact BitVec.eq_of_toInt_eq (by omega)

/-- The reference's table position is the kernel's. -/
theorem clip_apply (x : Img) (i : S16x3x512x512.Idx) : clip x i = entryWord (x i) := by
  show IntOp.minsi 255#32 (IntOp.maxsi 0#32 (Ideal.fptosi 32 ((x i : EReal) * Ideal.ofBits .f32 0x437F0000#32))) = _
  rw [word_255, minsi_comm, maxsi_comm]
  rfl

/-- A word below 256 is its own value, read as signed. -/
theorem toInt_small {w : BitVec 32} (h : w.toNat < 256) : w.toInt = w.toNat := by
  rw [BitVec.toInt_eq_toNat_cond, if_pos (by omega)]

/-- A pixel's position at any index of the column that stands for it. -/
theorem column_apply (i : IVec S16x3x512x512 32) (h : ∀ j, (i j).toNat < 256) (k : S16x3x512x512x1.Idx) :
    column i k = i fun a => ⟨(k (Fin.castSucc a)).val, by fin_cases a <;> exact (k _).isLt⟩ := by
  have hsel (j : S16x3x512x512.Idx) : select (cmpi .slt i (splatI 0#32)) (addi i (splatI 256#32)) i j = i j := by
    show Scalar.select (IntOp.cmpi .slt (i j) 0#32) _ (i j) = _
    have hn : ¬ (i j).slt 0#32 = true := by
      simp [BitVec.slt, toInt_small (h j)]
    simp only [IntOp.cmpi, hn]
    rfl
  unfold column broadcastInDim
  rw [hsel]
  congr 1
  funext a
  fin_cases a <;> rfl

/-- Every position is in the table. -/
theorem inside_apply (k : IVec S16x3x512x512x1 32) (h : ∀ j, (k j).toNat < 256) (i : S16x3x512x512.Idx) : inside k i = 1#1 := by
  refine Host.reduce_andi_one _ _ _ _ i rfl fun j => ?_
  show IntOp.andi (IntOp.cmpi .sge (k j) 0#32) (IntOp.cmpi .sle (k j) 255#32) = 1#1
  have h1 : (0#32).sle (k j) = true := by simp [BitVec.sle, toInt_small (h j)]
  have h2 : (k j).sle 255#32 = true := by
    have := h j
    simp only [BitVec.sle, toInt_small (h j), decide_eq_true_eq]
    show ((k j).toNat : ℤ) ≤ 255
    omega
  simp only [IntOp.cmpi, h1, h2]
  rfl

/-- Where a pixel of the result finds its word in the column. -/
theorem siIdx_apply (i : S16x3x512x512.Idx) (c) (b : Fin 4) :
    (gather_S256_S16x3x512x512x1_S16x3x512x512_n_0_n_n_0_4_1.siIdx i c (Fin.castSucc b)).val = (i b).val := by
  fin_cases b <;> rfl

/-- The gather reads the table at the pixel's word of the column. -/
theorem gather_apply (t : FVec Ideal S256 .f32) (k : IVec S16x3x512x512x1 32) (i : S16x3x512x512.Idx) :
    ∃ j : S16x3x512x512x1.Idx, (∀ b : Fin 4, (j (Fin.castSucc b)).val = (i b).val)
      ∧ Host.gather gather_S256_S16x3x512x512x1_S16x3x512x512_n_0_n_n_0_4_1 t k i
        = t fun a => ⟨min (k j).toInt.toNat 255, by obtain rfl : a = 0 := Subsingleton.elim _ _; show _ < 256; omega⟩ := by
  refine ⟨_, siIdx_apply i ⟨0, Nat.zero_lt_one⟩, ?_⟩
  unfold Host.gather
  congr 1
  funext a
  obtain rfl : a = 0 := Subsingleton.elim _ _
  apply Fin.ext
  have hb := GatherDims.batchCoord_eq_zero gather_S256_S16x3x512x512x1_S16x3x512x512_n_0_n_n_0_4_1 i 0 List.not_mem_nil
  have ho := GatherDims.offCoord_eq_zero gather_S256_S16x3x512x512x1_S16x3x512x512_n_0_n_n_0_4_1 i 0
    fun h => ((GatherDims.mem_sKept _ _).1 h).1 (List.mem_singleton.2 rfl)
  show GatherDims.start _ i k 0 + GatherDims.batchCoord _ i 0 + GatherDims.offCoord _ i 0 = _
  rw [hb, ho]
  unfold GatherDims.start
  have hm : (0 : Fin S256.rank) ∈ gather_S256_S16x3x512x512x1_S16x3x512x512_n_0_n_n_0_4_1.startIndexMap := List.mem_singleton.2 rfl
  rw [dif_pos hm]
  rfl

/-- A looked-up entry is the table's at the pixel's position. -/
theorem taken_apply (t : FVec Ideal S256 .f32) (x : Img) (i : S16x3x512x512.Idx) :
    taken t (column (clip x)) i = t (entry (x i)) := by
  have hc (j) : (clip x j).toNat < 256 := by rw [clip_apply]; exact clamp_lt _
  have hk (j) : (column (clip x) j).toNat < 256 := by rw [column_apply _ hc]; exact hc _
  unfold taken select
  rw [inside_apply _ hk]
  obtain ⟨j, hj, e⟩ := gather_apply t (column (clip x)) i
  refine e.trans (congrArg t ?_)
  funext a
  obtain rfl : a = 0 := Subsingleton.elim _ _
  apply Fin.ext
  have hw : column (clip x) j = entryWord (x i) := by
    rw [column_apply _ hc, clip_apply]
    exact congrArg (fun q => entryWord (x q)) (funext fun b => Fin.ext (hj b))
  show min (column (clip x) j).toInt.toNat 255 = (entryWord (x i)).toNat
  have h := hk j
  rw [toInt_small h, ← hw]
  omega

end Cert.Proof.Ideal.Ref

end
-- ==== Proof.Ideal.Equation.lean ====
/-
  The equation: over the extended reals the reference's loss is the kernel's. The reference takes three means and adds them,
  one of them times 1000; the kernel takes the mean of the sums of the three parts. A finite factor that is not negative
  distributes over any sum of extended reals, so neither side needs its terms to be finite.
-/
module

public import proofs.«01_k».proof.Proof.Ideal.Ref

@[expose] public section

noncomputable section

namespace Cert.Proof.Ideal

open Idealize.ShloMosaic

/-- A finite factor that is not negative distributes over a sum of extended reals. -/
theorem mul_sum_real {ι : Type} [DecidableEq ι] (s : Finset ι) (r : ℝ) (hr : 0 ≤ r) (f : ι → EReal) :
    (r : EReal) * ∑ i ∈ s, f i = ∑ i ∈ s, (r : EReal) * f i := by
  induction s using Finset.induction_on with
  | empty => simp
  | insert a s ha ih =>
    rw [Finset.sum_insert ha, Finset.sum_insert ha, ← ih,
      EReal.left_distrib_of_nonneg_of_ne_top (EReal.coe_nonneg.2 hr) (EReal.coe_ne_top r)]

/-- The sum of the contributions over the count is the three means put together. -/
theorem split {ι : Type} [Fintype ι] [DecidableEq ι] (g p s : ι → EReal) (c : ℝ) (hc : 0 ≤ c) :
    ((1000 : ℝ) : EReal) * ((∑ i, s i) * c) + (∑ i, p i) * c + (∑ i, g i) * c
      = (∑ i, (g i + p i + ((1000 : ℝ) : EReal) * s i)) * c := by
  have hd (y z : EReal) : (y + z) * c = y * c + z * c :=
    EReal.right_distrib_of_nonneg_of_ne_top (EReal.coe_nonneg.2 hc) (EReal.coe_ne_top c) y z
  rw [Finset.sum_add_distrib, Finset.sum_add_distrib, ← mul_sum_real _ _ (by norm_num), hd, hd, mul_assoc]
  ac_rfl

/-- The reference's loss is the mean of the contributions. -/
theorem loss_eq (x : Ref.Img) (t : FVec Ideal Cert.ReferenceIdeal.S256 .f32) (j : Cert.ReferenceIdeal.S_.Idx) :
    Ref.loss x t j = (∑ i, term t (x i)) * ((1 / 12582912 : ℝ) : EReal) := by
  have hm (y : Ref.Img) : (Ref.mean y j : EReal) = (∑ i, (y i : EReal)) * ((1 / 12582912 : ℝ) : EReal) := mean_apply y _ _ j
  show Ideal.ofBits .f32 0x447A0000#32 * Ref.mean (Ref.smoothed (Ref.dist (Host.negf x))) j + Ref.mean (Ref.dist x) j
    + Ref.mean (mulf (subf x (Ref.taken t (Ref.column (Ref.clip x)))) (subf x (Ref.taken t (Ref.column (Ref.clip x))))) j = _
  rw [hm, hm, hm, word_1000, split _ _ _ _ (by norm_num)]
  refine congrArg (· * ((1 / 12582912 : ℝ) : EReal)) (Finset.sum_congr rfl fun i _ => ?_)
  have hneg : (Ref.dist (Host.negf x) i : EReal) = max (-(x i : EReal)) 0 := Ref.dist_apply _ i
  have hgap : (mulf (subf x (Ref.taken t (Ref.column (Ref.clip x)))) (subf x (Ref.taken t (Ref.column (Ref.clip x)))) : Ref.Img) i
      = gap t (x i) := by
    show ((x i : EReal) - Ref.taken t (Ref.column (Ref.clip x)) i) * ((x i : EReal) - Ref.taken t (Ref.column (Ref.clip x)) i) = _
    rw [Ref.taken_apply]
    rfl
  rw [Ref.smoothed_apply _ _ (by rw [hneg]; exact le_max_right _ _), hneg, Ref.dist_apply, hgap]
  rfl

/-- Where the arguments agree, the reference's result is the kernel's. -/
theorem equation (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hx : m' ((c.tc : Thread Cert.ReferenceIdeal.nD Cert.ReferenceIdeal.τ).loc Cert.ReferenceIdeal.main_arg0) = m (aLoc c))
    (ht : m' ((c.tc : Thread Cert.ReferenceIdeal.nD Cert.ReferenceIdeal.τ).loc Cert.ReferenceIdeal.main_arg2) = m (tLoc c)) :
    Cert.ReferenceIdeal.Value.res_out0 m' c = out m c := by
  rw [Ref.res_eq, hx, ht]
  funext j
  exact (loss_eq _ _ j).trans (out_eq m c j).symm

end Cert.Proof.Ideal

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Bits.Launch
public import proofs.«01_k».proof.Proof.Ideal.Equation
public import Idealize.ShloMosaic.Adequacy
public import Idealize.ShloMosaic.Init

@[expose] public section

noncomputable section

namespace Cert.Proof

open Idealize.ShloMosaic Idealize.SL.Sem

/-- The kernel, over machine words, ends without fault, leaves its arguments alone and its counters at zero. -/
theorem frame_kernel : Cert.quiescent_Kernel := fun m g _ =>
  (θ_run _ _ _).mono (fun _ h => ⟨fun c => ⟨(h.1 c).1, (h.1 c).2.1, (h.1 c).2.2.1⟩, h.2⟩) (Bits.run_main m g)

/-- So does the kernel over the extended reals. -/
theorem frame_ideal : Cert.quiescent_KernelIdeal := fun m g _ =>
  (θ_run _ _ _).mono (fun _ h => ⟨fun c => ⟨(h.1 c).1, (h.1 c).2.1, (h.1 c).2.2.1⟩, h.2⟩) (Ideal.run_main m g)

/-- So does the reference over the extended reals. -/
theorem frame_reference : Cert.quiescent_ReferenceIdeal := fun m g _ =>
  (θ_run Cert.ReferenceIdeal.defs _ _).mono
    (fun r h => ⟨fun c => (h c).2, sem_eq_zero_of_no_sems (by decide) r.2⟩) (Cert.ReferenceIdeal.Value.run m g)

/-- The two named constants are the rationals 1/5 and 1/10, of which the kernel's words are the roundings. -/
theorem preserves : Cert.preserves_Kernel_KernelIdeal :=
  ⟨IdealRules.named_const.statement Cert.KernelIdeal.κ "beta" .f32 0x3E4CCCCD#32 ((1/5:ℝ):EReal) rfl,
   IdealRules.named_const.statement Cert.KernelIdeal.κ "half_beta" .f32 0x3DCCCCCD#32 ((1/10:ℝ):EReal) rfl⟩

/-- Kernel and reference leave the same result: the mean of the contributions. -/
theorem algebraic : Cert.algebraic_KernelIdeal_ReferenceIdeal := fun m g m' g' _ hagree =>
  ⟨fun c => Ideal.out m c,
   (θ_run _ _ _).mono (fun _ h c => ⟨(h.1 c).2.2.2, (h.1 c).1, (h.1 c).2.1, (h.1 c).2.2.1⟩) (Ideal.run_main m g),
   (θ_run Cert.ReferenceIdeal.defs _ _).mono
    (fun _ h c => ⟨(h c).1.trans (Ideal.equation m m' c (hagree c).1 (hagree c).2.2), (h c).2⟩)
    (Cert.ReferenceIdeal.Value.run m' g')⟩

theorem claim : Cert.Claim :=
  ⟨Cert.Kernel.Gen.facts, Cert.KernelIdeal.Gen.facts, Cert.ReferenceIdeal.Gen.facts,
    frame_kernel, frame_ideal, frame_reference, preserves, algebraic⟩

end Cert.Proof

end
